-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .bf16 0x41E2#16 ((254 / 9 : ℝ) : EReal)
  ∧ IdealRules.named_const.Statement Cert.KernelIdeal.κ "score_scale" .f32 0x3B912245#32 ((9 / 2032 : ℝ) : EReal)
  ∧ IdealRules.named_const.Statement Cert.KernelIdeal.κ "inv_scale" .f32 0x3D112245#32 ((9 / 254 : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v58) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .f32 := (extf .f32 · bitsLt_bf16_f32) main_arg0
  let main_v1 : FVec F S512x256 .f32 := (extf .f32 · bitsLt_bf16_f32) main_arg1
  let main_v2 : FVec F S2x128x512 .f32 := Host.absf main_v0
  let main_cst : FVec F S_ .f32 := constant S_ .f32 0x7F800000#32
  let main_v3 : FVec F S2x128x512 .f32 := broadcastInDim S2x128x512 ![] bcast_S_S2x128x512 main_cst
  let main_v4 : IVec S2x128x512 1 := cmpf .olt main_v2 main_v3
  let main_c : IVec S_ 1 := constantI S_ 1 1#1
  let main_v5 : IVec S_ 1 := (fun x v => Host.reduce IntOp.andi x v reducesTo_S2x128x512_S_d0_1_2 h_S_) main_v4 main_c
  let main_v6 : FVec F S512x256 .f32 := Host.absf main_v1
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v5 main_v9
  main_v10
-- ==== Pre_finite_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bitsLt_bf16_f32 : FTy.bits .bf16 < FTy.bits .f32
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x1024x512 .bf16) (main_arg1 : FVec F S512x256 .bf16) (main_arg2 : FVec F S2x1024x4x64 .bf16) (main_arg3 : FVec F S2x1024x4x64 .bf16) (main_arg4 : FVec F S256x512 .bf16) : IVec S_ 1 :=
  let main_v0 : FVec F S2x1024x512 .f32 := (extf .f32 · bitsLt_bf16_f32) main_arg0
  let main_v1 : FVec F S512x256 .f32 := (extf .f32 · bitsLt_bf16_f32) main_arg1
  let main_v2 : FVec F S2x1024x512 .f32 := Host.absf main_v0
  let main_cst : FVec F S_ .f32 := constant S_ .f32 0x7F800000#32
  let main_v3 : FVec F S2x1024x512 .f32 := broadcastInDim S2x1024x512 ![] bcast_S_S2x1024x512 main_cst
  let main_v4 : IVec S2x1024x512 1 := cmpf .olt main_v2 main_v3
  let main_c : IVec S_ 1 := constantI S_ 1 1#1
  let main_v5 : IVec S_ 1 := (fun x v => Host.reduce IntOp.andi x v reducesTo_S2x1024x512_S_d0_1_2 h_S_) main_v4 main_c
  let main_v6 : FVec F S512x256 .f32 := Host.absf main_v1
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v5 main_v9
  main_v10
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S8x2x2x128x256 : Shape := ⟨5, ![8, 2, 2, 128, 256]⟩
abbrev S8 : Shape := ⟨1, ![8]⟩
abbrev S_ : Shape := ⟨0, ![]⟩
abbrev S2x128x256 : Shape := ⟨3, ![2, 128, 256]⟩
abbrev S1x2x128x256 : Shape := ⟨4, ![1, 2, 128, 256]⟩
abbrev S2x2x128x256 : Shape := ⟨4, ![2, 2, 128, 256]⟩
abbrev S1x2x2x128x256 : Shape := ⟨5, ![1, 2, 2, 128, 256]⟩
abbrev S1 : Shape := ⟨1, ![1]⟩
abbrev S1x128x512 : Shape := ⟨3, ![1, 128, 512]⟩
abbrev S128x512 : Shape := ⟨2, ![128, 512]⟩
abbrev S128x256 : Shape := ⟨2, ![128, 256]⟩
abbrev S128x1024 : Shape := ⟨2, ![128, 1024]⟩
abbrev S128x64 : Shape := ⟨2, ![128, 64]⟩
abbrev S8x1x1x128x64 : Shape := ⟨5, ![8, 1, 1, 128, 64]⟩
abbrev S8x128x64 : Shape := ⟨3, ![8, 128, 64]⟩
abbrev S1024x64 : Shape := ⟨2, ![1024, 64]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S8x2x2x128x256, .i8⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .ne v5 c0_i32_0
  v6

def k0_dev1 : Nat :=
  let c0_i32_189 : BitVec 32 := 0#32
  let c0_i32_187 : BitVec 32 := 0#32
  let c1_i32_188 : BitVec 32 := 1#32
  let v422 : BitVec 32 := Scalar.muli c0_i32_187 c1_i32_188
  let v423 : BitVec 32 := Scalar.addi c0_i32_189 v422
  v423.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sgt v2 c1_i32_1
  let v8 : BitVec 32 := Scalar.extui v7
  let c0_i32_2 : BitVec 32 := 0#32
  let v9 : BitVec 1 := Scalar.cmpi .ne v8 c0_i32_2
  v9

def k0_dev2 : Nat :=
  let c0_i32_189 : BitVec 32 := 0#32
  let c1_i32_187 : BitVec 32 := 1#32
  let c1_i32_188 : BitVec 32 := 1#32
  let v422 : BitVec 32 := Scalar.muli c1_i32_187 c1_i32_188
  let v423 : BitVec 32 := Scalar.addi c0_i32_189 v422
  v423.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .sgt v2 c2_i32
  let v11 : BitVec 32 := Scalar.extui v10
  let c0_i32_3 : BitVec 32 := 0#32
  let v12 : BitVec 1 := Scalar.cmpi .ne v11 c0_i32_3
  v12

def k0_dev3 : Nat :=
  let c0_i32_189 : BitVec 32 := 0#32
  let c2_i32_187 : BitVec 32 := 2#32
  let c1_i32_188 : BitVec 32 := 1#32
  let v422 : BitVec 32 := Scalar.muli c2_i32_187 c1_i32_188
  let v423 : BitVec 32 := Scalar.addi c0_i32_189 v422
  v423.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .sgt v2 c3_i32
  let v14 : BitVec 32 := Scalar.extui v13
  let c0_i32_4 : BitVec 32 := 0#32
  let v15 : BitVec 1 := Scalar.cmpi .ne v14 c0_i32_4
  v15

def k0_dev4 : Nat :=
  let c0_i32_189 : BitVec 32 := 0#32
  let c3_i32_187 : BitVec 32 := 3#32
  let c1_i32_188 : BitVec 32 := 1#32
  let v422 : BitVec 32 := Scalar.muli c3_i32_187 c1_i32_188
  let v423 : BitVec 32 := Scalar.addi c0_i32_189 v422
  v423.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .sgt v2 c4_i32
  let v17 : BitVec 32 := Scalar.extui v16
  let c0_i32_5 : BitVec 32 := 0#32
  let v18 : BitVec 1 := Scalar.cmpi .ne v17 c0_i32_5
  v18

def k0_dev5 : Nat :=
  let c0_i32_189 : BitVec 32 := 0#32
  let c4_i32_187 : BitVec 32 := 4#32
  let c1_i32_188 : BitVec 32 := 1#32
  let v422 : BitVec 32 := Scalar.muli c4_i32_187 c1_i32_188
  let v423 : BitVec 32 := Scalar.addi c0_i32_189 v422
  v423.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .sgt v2 c5_i32
  let v20 : BitVec 32 := Scalar.extui v19
  let c0_i32_6 : BitVec 32 := 0#32
  let v21 : BitVec 1 := Scalar.cmpi .ne v20 c0_i32_6
  v21

def k0_dev6 : Nat :=
  let c0_i32_189 : BitVec 32 := 0#32
  let c5_i32_187 : BitVec 32 := 5#32
  let c1_i32_188 : BitVec 32 := 1#32
  let v422 : BitVec 32 := Scalar.muli c5_i32_187 c1_i32_188
  let v423 : BitVec 32 := Scalar.addi c0_i32_189 v422
  v423.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .sgt v2 c6_i32
  let v23 : BitVec 32 := Scalar.extui v22
  let c0_i32_7 : BitVec 32 := 0#32
  let v24 : BitVec 1 := Scalar.cmpi .ne v23 c0_i32_7
  v24

def k0_dev7 : Nat :=
  let c0_i32_189 : BitVec 32 := 0#32
  let c6_i32_187 : BitVec 32 := 6#32
  let c1_i32_188 : BitVec 32 := 1#32
  let v422 : BitVec 32 := Scalar.muli c6_i32_187 c1_i32_188
  let v423 : BitVec 32 := Scalar.addi c0_i32_189 v422
  v423.toNat
def k0_off1 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v83 : Index := Scalar.indexCast v2
  let c0_40 : Index := 0#32
  let c0_41 : Index := 0#32
  let c0_42 : Index := 0#32
  let c0_43 : Index := 0#32
  ![v83.toNat, 0, 0, 0, 0]
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v109 : BitVec 32 := Scalar.addi v2 c1_i32_58
  let c8_i32_59 : BitVec 32 := 8#32
  let v110 : BitVec 1 := Scalar.cmpi .slt v109 c8_i32_59
  let v111 : BitVec 32 := Scalar.extui v110
  let c0_i32_60 : BitVec 32 := 0#32
  let v112 : BitVec 1 := Scalar.cmpi .ne v111 c0_i32_60
  v112

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v109 : BitVec 32 := Scalar.addi v2 c1_i32_58
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v109 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_200 : BitVec 32 := 0#32
  let c0_i32_201 : BitVec 32 := 0#32
  let c0_i32_202 : BitVec 32 := 0#32
  let c0_i32_203 : BitVec 32 := 0#32
  ![v2.toNat, 0, 0, 0, 0]
def k0_dev8 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v109 : BitVec 32 := Scalar.addi v2 c1_i32_58
  let c8_i32_192 : BitVec 32 := 8#32
  let c0_i32_193 : BitVec 32 := 0#32
  let v432 : BitVec 1 := Scalar.cmpi .eq c8_i32_192 c0_i32_193
  let c1_i32_194 : BitVec 32 := 1#32
  let v433 : BitVec 32 := Scalar.select v432 c1_i32_194 c8_i32_192
  let v434 : BitVec 32 := Scalar.remsi v109 v433
  let c0_i32_196 : BitVec 32 := 0#32
  let v436 : BitVec 1 := Scalar.cmpi .slt v434 c0_i32_196
  let c0_i32_197 : BitVec 32 := 0#32
  let v437 : BitVec 1 := Scalar.cmpi .slt v433 c0_i32_197
  let v438 : BitVec 1 := Scalar.xori v436 v437
  let c0_i32_195 : BitVec 32 := 0#32
  let v435 : BitVec 1 := Scalar.cmpi .ne v434 c0_i32_195
  let v439 : BitVec 1 := Scalar.andi v438 v435
  let v440 : BitVec 32 := Scalar.addi v434 v433
  let v441 : BitVec 32 := Scalar.select v439 v440 v434
  let c1_i32_198 : BitVec 32 := 1#32
  let v442 : BitVec 32 := Scalar.muli v441 c1_i32_198
  let v443 : BitVec 32 := Scalar.addi c0_i32_199 v442
  v443.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v113 : BitVec 32 := Scalar.addi v2 c2_i32_61
  let c8_i32_62 : BitVec 32 := 8#32
  let v114 : BitVec 1 := Scalar.cmpi .slt v113 c8_i32_62
  let v115 : BitVec 32 := Scalar.extui v114
  let c0_i32_63 : BitVec 32 := 0#32
  let v116 : BitVec 1 := Scalar.cmpi .ne v115 c0_i32_63
  v116

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v113 : BitVec 32 := Scalar.addi v2 c2_i32_61
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v113 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_200 : BitVec 32 := 0#32
  let c0_i32_201 : BitVec 32 := 0#32
  let c0_i32_202 : BitVec 32 := 0#32
  let c0_i32_203 : BitVec 32 := 0#32
  ![v2.toNat, 0, 0, 0, 0]
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v113 : BitVec 32 := Scalar.addi v2 c2_i32_61
  let c8_i32_192 : BitVec 32 := 8#32
  let c0_i32_193 : BitVec 32 := 0#32
  let v432 : BitVec 1 := Scalar.cmpi .eq c8_i32_192 c0_i32_193
  let c1_i32_194 : BitVec 32 := 1#32
  let v433 : BitVec 32 := Scalar.select v432 c1_i32_194 c8_i32_192
  let v434 : BitVec 32 := Scalar.remsi v113 v433
  let c0_i32_196 : BitVec 32 := 0#32
  let v436 : BitVec 1 := Scalar.cmpi .slt v434 c0_i32_196
  let c0_i32_197 : BitVec 32 := 0#32
  let v437 : BitVec 1 := Scalar.cmpi .slt v433 c0_i32_197
  let v438 : BitVec 1 := Scalar.xori v436 v437
  let c0_i32_195 : BitVec 32 := 0#32
  let v435 : BitVec 1 := Scalar.cmpi .ne v434 c0_i32_195
  let v439 : BitVec 1 := Scalar.andi v438 v435
  let v440 : BitVec 32 := Scalar.addi v434 v433
  let v441 : BitVec 32 := Scalar.select v439 v440 v434
  let c1_i32_198 : BitVec 32 := 1#32
  let v442 : BitVec 32 := Scalar.muli v441 c1_i32_198
  let v443 : BitVec 32 := Scalar.addi c0_i32_199 v442
  v443.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v117 : BitVec 32 := Scalar.addi v2 c3_i32_64
  let c8_i32_65 : BitVec 32 := 8#32
  let v118 : BitVec 1 := Scalar.cmpi .slt v117 c8_i32_65
  let v119 : BitVec 32 := Scalar.extui v118
  let c0_i32_66 : BitVec 32 := 0#32
  let v120 : BitVec 1 := Scalar.cmpi .ne v119 c0_i32_66
  v120

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v117 : BitVec 32 := Scalar.addi v2 c3_i32_64
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v117 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_200 : BitVec 32 := 0#32
  let c0_i32_201 : BitVec 32 := 0#32
  let c0_i32_202 : BitVec 32 := 0#32
  let c0_i32_203 : BitVec 32 := 0#32
  ![v2.toNat, 0, 0, 0, 0]
def k0_dev10 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v117 : BitVec 32 := Scalar.addi v2 c3_i32_64
  let c8_i32_192 : BitVec 32 := 8#32
  let c0_i32_193 : BitVec 32 := 0#32
  let v432 : BitVec 1 := Scalar.cmpi .eq c8_i32_192 c0_i32_193
  let c1_i32_194 : BitVec 32 := 1#32
  let v433 : BitVec 32 := Scalar.select v432 c1_i32_194 c8_i32_192
  let v434 : BitVec 32 := Scalar.remsi v117 v433
  let c0_i32_196 : BitVec 32 := 0#32
  let v436 : BitVec 1 := Scalar.cmpi .slt v434 c0_i32_196
  let c0_i32_197 : BitVec 32 := 0#32
  let v437 : BitVec 1 := Scalar.cmpi .slt v433 c0_i32_197
  let v438 : BitVec 1 := Scalar.xori v436 v437
  let c0_i32_195 : BitVec 32 := 0#32
  let v435 : BitVec 1 := Scalar.cmpi .ne v434 c0_i32_195
  let v439 : BitVec 1 := Scalar.andi v438 v435
  let v440 : BitVec 32 := Scalar.addi v434 v433
  let v441 : BitVec 32 := Scalar.select v439 v440 v434
  let c1_i32_198 : BitVec 32 := 1#32
  let v442 : BitVec 32 := Scalar.muli v441 c1_i32_198
  let v443 : BitVec 32 := Scalar.addi c0_i32_199 v442
  v443.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v121 : BitVec 32 := Scalar.addi v2 c4_i32_67
  let c8_i32_68 : BitVec 32 := 8#32
  let v122 : BitVec 1 := Scalar.cmpi .slt v121 c8_i32_68
  let v123 : BitVec 32 := Scalar.extui v122
  let c0_i32_69 : BitVec 32 := 0#32
  let v124 : BitVec 1 := Scalar.cmpi .ne v123 c0_i32_69
  v124

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v121 : BitVec 32 := Scalar.addi v2 c4_i32_67
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v121 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_200 : BitVec 32 := 0#32
  let c0_i32_201 : BitVec 32 := 0#32
  let c0_i32_202 : BitVec 32 := 0#32
  let c0_i32_203 : BitVec 32 := 0#32
  ![v2.toNat, 0, 0, 0, 0]
def k0_dev11 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v121 : BitVec 32 := Scalar.addi v2 c4_i32_67
  let c8_i32_192 : BitVec 32 := 8#32
  let c0_i32_193 : BitVec 32 := 0#32
  let v432 : BitVec 1 := Scalar.cmpi .eq c8_i32_192 c0_i32_193
  let c1_i32_194 : BitVec 32 := 1#32
  let v433 : BitVec 32 := Scalar.select v432 c1_i32_194 c8_i32_192
  let v434 : BitVec 32 := Scalar.remsi v121 v433
  let c0_i32_196 : BitVec 32 := 0#32
  let v436 : BitVec 1 := Scalar.cmpi .slt v434 c0_i32_196
  let c0_i32_197 : BitVec 32 := 0#32
  let v437 : BitVec 1 := Scalar.cmpi .slt v433 c0_i32_197
  let v438 : BitVec 1 := Scalar.xori v436 v437
  let c0_i32_195 : BitVec 32 := 0#32
  let v435 : BitVec 1 := Scalar.cmpi .ne v434 c0_i32_195
  let v439 : BitVec 1 := Scalar.andi v438 v435
  let v440 : BitVec 32 := Scalar.addi v434 v433
  let v441 : BitVec 32 := Scalar.select v439 v440 v434
  let c1_i32_198 : BitVec 32 := 1#32
  let v442 : BitVec 32 := Scalar.muli v441 c1_i32_198
  let v443 : BitVec 32 := Scalar.addi c0_i32_199 v442
  v443.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v125 : BitVec 32 := Scalar.addi v2 c5_i32_70
  let c8_i32_71 : BitVec 32 := 8#32
  let v126 : BitVec 1 := Scalar.cmpi .slt v125 c8_i32_71
  let v127 : BitVec 32 := Scalar.extui v126
  let c0_i32_72 : BitVec 32 := 0#32
  let v128 : BitVec 1 := Scalar.cmpi .ne v127 c0_i32_72
  v128

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v125 : BitVec 32 := Scalar.addi v2 c5_i32_70
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v125 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_200 : BitVec 32 := 0#32
  let c0_i32_201 : BitVec 32 := 0#32
  let c0_i32_202 : BitVec 32 := 0#32
  let c0_i32_203 : BitVec 32 := 0#32
  ![v2.toNat, 0, 0, 0, 0]
def k0_dev12 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v125 : BitVec 32 := Scalar.addi v2 c5_i32_70
  let c8_i32_192 : BitVec 32 := 8#32
  let c0_i32_193 : BitVec 32 := 0#32
  let v432 : BitVec 1 := Scalar.cmpi .eq c8_i32_192 c0_i32_193
  let c1_i32_194 : BitVec 32 := 1#32
  let v433 : BitVec 32 := Scalar.select v432 c1_i32_194 c8_i32_192
  let v434 : BitVec 32 := Scalar.remsi v125 v433
  let c0_i32_196 : BitVec 32 := 0#32
  let v436 : BitVec 1 := Scalar.cmpi .slt v434 c0_i32_196
  let c0_i32_197 : BitVec 32 := 0#32
  let v437 : BitVec 1 := Scalar.cmpi .slt v433 c0_i32_197
  let v438 : BitVec 1 := Scalar.xori v436 v437
  let c0_i32_195 : BitVec 32 := 0#32
  let v435 : BitVec 1 := Scalar.cmpi .ne v434 c0_i32_195
  let v439 : BitVec 1 := Scalar.andi v438 v435
  let v440 : BitVec 32 := Scalar.addi v434 v433
  let v441 : BitVec 32 := Scalar.select v439 v440 v434
  let c1_i32_198 : BitVec 32 := 1#32
  let v442 : BitVec 32 := Scalar.muli v441 c1_i32_198
  let v443 : BitVec 32 := Scalar.addi c0_i32_199 v442
  v443.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v129 : BitVec 32 := Scalar.addi v2 c6_i32_73
  let c8_i32_74 : BitVec 32 := 8#32
  let v130 : BitVec 1 := Scalar.cmpi .slt v129 c8_i32_74
  let v131 : BitVec 32 := Scalar.extui v130
  let c0_i32_75 : BitVec 32 := 0#32
  let v132 : BitVec 1 := Scalar.cmpi .ne v131 c0_i32_75
  v132

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v129 : BitVec 32 := Scalar.addi v2 c6_i32_73
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v129 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_200 : BitVec 32 := 0#32
  let c0_i32_201 : BitVec 32 := 0#32
  let c0_i32_202 : BitVec 32 := 0#32
  let c0_i32_203 : BitVec 32 := 0#32
  ![v2.toNat, 0, 0, 0, 0]
def k0_dev13 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v129 : BitVec 32 := Scalar.addi v2 c6_i32_73
  let c8_i32_192 : BitVec 32 := 8#32
  let c0_i32_193 : BitVec 32 := 0#32
  let v432 : BitVec 1 := Scalar.cmpi .eq c8_i32_192 c0_i32_193
  let c1_i32_194 : BitVec 32 := 1#32
  let v433 : BitVec 32 := Scalar.select v432 c1_i32_194 c8_i32_192
  let v434 : BitVec 32 := Scalar.remsi v129 v433
  let c0_i32_196 : BitVec 32 := 0#32
  let v436 : BitVec 1 := Scalar.cmpi .slt v434 c0_i32_196
  let c0_i32_197 : BitVec 32 := 0#32
  let v437 : BitVec 1 := Scalar.cmpi .slt v433 c0_i32_197
  let v438 : BitVec 1 := Scalar.xori v436 v437
  let c0_i32_195 : BitVec 32 := 0#32
  let v435 : BitVec 1 := Scalar.cmpi .ne v434 c0_i32_195
  let v439 : BitVec 1 := Scalar.andi v438 v435
  let v440 : BitVec 32 := Scalar.addi v434 v433
  let v441 : BitVec 32 := Scalar.select v439 v440 v434
  let c1_i32_198 : BitVec 32 := 1#32
  let v442 : BitVec 32 := Scalar.muli v441 c1_i32_198
  let v443 : BitVec 32 := Scalar.addi c0_i32_199 v442
  v443.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v133 : BitVec 32 := Scalar.addi v2 c7_i32_76
  let c8_i32_77 : BitVec 32 := 8#32
  let v134 : BitVec 1 := Scalar.cmpi .slt v133 c8_i32_77
  let v135 : BitVec 32 := Scalar.extui v134
  let c0_i32_78 : BitVec 32 := 0#32
  let v136 : BitVec 1 := Scalar.cmpi .ne v135 c0_i32_78
  v136

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v133 : BitVec 32 := Scalar.addi v2 c7_i32_76
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v133 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_200 : BitVec 32 := 0#32
  let c0_i32_201 : BitVec 32 := 0#32
  let c0_i32_202 : BitVec 32 := 0#32
  let c0_i32_203 : BitVec 32 := 0#32
  ![v2.toNat, 0, 0, 0, 0]
def k0_dev14 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v133 : BitVec 32 := Scalar.addi v2 c7_i32_76
  let c8_i32_192 : BitVec 32 := 8#32
  let c0_i32_193 : BitVec 32 := 0#32
  let v432 : BitVec 1 := Scalar.cmpi .eq c8_i32_192 c0_i32_193
  let c1_i32_194 : BitVec 32 := 1#32
  let v433 : BitVec 32 := Scalar.select v432 c1_i32_194 c8_i32_192
  let v434 : BitVec 32 := Scalar.remsi v133 v433
  let c0_i32_196 : BitVec 32 := 0#32
  let v436 : BitVec 1 := Scalar.cmpi .slt v434 c0_i32_196
  let c0_i32_197 : BitVec 32 := 0#32
  let v437 : BitVec 1 := Scalar.cmpi .slt v433 c0_i32_197
  let v438 : BitVec 1 := Scalar.xori v436 v437
  let c0_i32_195 : BitVec 32 := 0#32
  let v435 : BitVec 1 := Scalar.cmpi .ne v434 c0_i32_195
  let v439 : BitVec 1 := Scalar.andi v438 v435
  let v440 : BitVec 32 := Scalar.addi v434 v433
  let v441 : BitVec 32 := Scalar.select v439 v440 v434
  let c1_i32_198 : BitVec 32 := 1#32
  let v442 : BitVec 32 := Scalar.muli v441 c1_i32_198
  let v443 : BitVec 32 := Scalar.addi c0_i32_199 v442
  v443.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_165 : BitVec 32 := 1#32
  let v394 : BitVec 32 := Scalar.addi v2 c1_i32_165
  let c8_i32_166 : BitVec 32 := 8#32
  let v395 : BitVec 1 := Scalar.cmpi .slt v394 c8_i32_166
  let v396 : BitVec 32 := Scalar.extui v395
  let c0_i32_167 : BitVec 32 := 0#32
  let v397 : BitVec 1 := Scalar.cmpi .ne v396 c0_i32_167
  v397

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_165 : BitVec 32 := 1#32
  let v394 : BitVec 32 := Scalar.addi v2 c1_i32_165
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v394 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off24 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_199 : BitVec 32 := 0#32
  let c0_i32_200 : BitVec 32 := 0#32
  let c0_i32_201 : BitVec 32 := 0#32
  let c0_i32_202 : BitVec 32 := 0#32
  ![v2.toNat, 0, 0, 0, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_168 : BitVec 32 := 2#32
  let v398 : BitVec 32 := Scalar.addi v2 c2_i32_168
  let c8_i32_169 : BitVec 32 := 8#32
  let v399 : BitVec 1 := Scalar.cmpi .slt v398 c8_i32_169
  let v400 : BitVec 32 := Scalar.extui v399
  let c0_i32_170 : BitVec 32 := 0#32
  let v401 : BitVec 1 := Scalar.cmpi .ne v400 c0_i32_170
  v401

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_168 : BitVec 32 := 2#32
  let v398 : BitVec 32 := Scalar.addi v2 c2_i32_168
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v398 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off26 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_199 : BitVec 32 := 0#32
  let c0_i32_200 : BitVec 32 := 0#32
  let c0_i32_201 : BitVec 32 := 0#32
  let c0_i32_202 : BitVec 32 := 0#32
  ![v2.toNat, 0, 0, 0, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_171 : BitVec 32 := 3#32
  let v402 : BitVec 32 := Scalar.addi v2 c3_i32_171
  let c8_i32_172 : BitVec 32 := 8#32
  let v403 : BitVec 1 := Scalar.cmpi .slt v402 c8_i32_172
  let v404 : BitVec 32 := Scalar.extui v403
  let c0_i32_173 : BitVec 32 := 0#32
  let v405 : BitVec 1 := Scalar.cmpi .ne v404 c0_i32_173
  v405

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_171 : BitVec 32 := 3#32
  let v402 : BitVec 32 := Scalar.addi v2 c3_i32_171
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v402 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off28 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_199 : BitVec 32 := 0#32
  let c0_i32_200 : BitVec 32 := 0#32
  let c0_i32_201 : BitVec 32 := 0#32
  let c0_i32_202 : BitVec 32 := 0#32
  ![v2.toNat, 0, 0, 0, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_174 : BitVec 32 := 4#32
  let v406 : BitVec 32 := Scalar.addi v2 c4_i32_174
  let c8_i32_175 : BitVec 32 := 8#32
  let v407 : BitVec 1 := Scalar.cmpi .slt v406 c8_i32_175
  let v408 : BitVec 32 := Scalar.extui v407
  let c0_i32_176 : BitVec 32 := 0#32
  let v409 : BitVec 1 := Scalar.cmpi .ne v408 c0_i32_176
  v409

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_174 : BitVec 32 := 4#32
  let v406 : BitVec 32 := Scalar.addi v2 c4_i32_174
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v406 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off30 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_199 : BitVec 32 := 0#32
  let c0_i32_200 : BitVec 32 := 0#32
  let c0_i32_201 : BitVec 32 := 0#32
  let c0_i32_202 : BitVec 32 := 0#32
  ![v2.toNat, 0, 0, 0, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_177 : BitVec 32 := 5#32
  let v410 : BitVec 32 := Scalar.addi v2 c5_i32_177
  let c8_i32_178 : BitVec 32 := 8#32
  let v411 : BitVec 1 := Scalar.cmpi .slt v410 c8_i32_178
  let v412 : BitVec 32 := Scalar.extui v411
  let c0_i32_179 : BitVec 32 := 0#32
  let v413 : BitVec 1 := Scalar.cmpi .ne v412 c0_i32_179
  v413

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_177 : BitVec 32 := 5#32
  let v410 : BitVec 32 := Scalar.addi v2 c5_i32_177
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v410 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off32 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_199 : BitVec 32 := 0#32
  let c0_i32_200 : BitVec 32 := 0#32
  let c0_i32_201 : BitVec 32 := 0#32
  let c0_i32_202 : BitVec 32 := 0#32
  ![v2.toNat, 0, 0, 0, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_180 : BitVec 32 := 6#32
  let v414 : BitVec 32 := Scalar.addi v2 c6_i32_180
  let c8_i32_181 : BitVec 32 := 8#32
  let v415 : BitVec 1 := Scalar.cmpi .slt v414 c8_i32_181
  let v416 : BitVec 32 := Scalar.extui v415
  let c0_i32_182 : BitVec 32 := 0#32
  let v417 : BitVec 1 := Scalar.cmpi .ne v416 c0_i32_182
  v417

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_180 : BitVec 32 := 6#32
  let v414 : BitVec 32 := Scalar.addi v2 c6_i32_180
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v414 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off34 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_199 : BitVec 32 := 0#32
  let c0_i32_200 : BitVec 32 := 0#32
  let c0_i32_201 : BitVec 32 := 0#32
  let c0_i32_202 : BitVec 32 := 0#32
  ![v2.toNat, 0, 0, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_183 : BitVec 32 := 7#32
  let v418 : BitVec 32 := Scalar.addi v2 c7_i32_183
  let c8_i32_184 : BitVec 32 := 8#32
  let v419 : BitVec 1 := Scalar.cmpi .slt v418 c8_i32_184
  let v420 : BitVec 32 := Scalar.extui v419
  let c0_i32_185 : BitVec 32 := 0#32
  let v421 : BitVec 1 := Scalar.cmpi .ne v420 c0_i32_185
  v421

def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_183 : BitVec 32 := 7#32
  let v418 : BitVec 32 := Scalar.addi v2 c7_i32_183
  let c8_i32_186 : BitVec 32 := 8#32
  let c0_i32_187 : BitVec 32 := 0#32
  let v422 : BitVec 1 := Scalar.cmpi .eq c8_i32_186 c0_i32_187
  let c1_i32_188 : BitVec 32 := 1#32
  let v423 : BitVec 32 := Scalar.select v422 c1_i32_188 c8_i32_186
  let v424 : BitVec 32 := Scalar.remsi v418 v423
  let c0_i32_190 : BitVec 32 := 0#32
  let v426 : BitVec 1 := Scalar.cmpi .slt v424 c0_i32_190
  let c0_i32_191 : BitVec 32 := 0#32
  let v427 : BitVec 1 := Scalar.cmpi .slt v423 c0_i32_191
  let v428 : BitVec 1 := Scalar.xori v426 v427
  let c0_i32_189 : BitVec 32 := 0#32
  let v425 : BitVec 1 := Scalar.cmpi .ne v424 c0_i32_189
  let v429 : BitVec 1 := Scalar.andi v428 v425
  let v430 : BitVec 32 := Scalar.addi v424 v423
  let v431 : BitVec 32 := Scalar.select v429 v430 v424
  ![v431.toNat]
def k0_off36 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_199 : BitVec 32 := 0#32
  let c0_i32_200 : BitVec 32 := 0#32
  let c0_i32_201 : BitVec 32 := 0#32
  let c0_i32_202 : BitVec 32 := 0#32
  ![v2.toNat, 0, 0, 0, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_scale" => some ((9 / 254 : ℝ) : EReal)
  | "scale" => some ((254 / 9 : ℝ) : EReal)
  | "score_scale" => some ((9 / 2032 : ℝ) : EReal)
  | _ => none
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩
abbrev S2x1024x256 : Shape := ⟨3, ![2, 1024, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 136
  | .vmem => 0
  | .smem => 0
  | _ => 0

abbrev hbmTy0_0 (i : Nat) : BufTy := match i % 128 with
  | 0 => ⟨S2x1024x512, .bf16⟩
  | 1 => ⟨S512x256, .bf16⟩
  | 2 => ⟨S2x1024x4x64, .bf16⟩
  | 3 => ⟨S2x1024x4x64, .bf16⟩
  | 4 => ⟨S256x512, .bf16⟩
  | 5 => ⟨S2x1024x512, .f32⟩
  | 6 => ⟨S512x256, .f32⟩
  | 7 => ⟨S2x1024x4x64, .f32⟩
  | 8 => ⟨S2x1024x4x64, .f32⟩
  | 9 => ⟨S256x512, .f32⟩
  | 10 => ⟨S_, .f32⟩
  | 11 => ⟨S_, .f32⟩
  | 12 => ⟨S_, .f32⟩
  | 13 => ⟨S2x1024x4x64, .f32⟩
  | 14 => ⟨S2x1024x4x64, .f32⟩
  | 15 => ⟨S_, .f32⟩
  | 16 => ⟨S2x1024x4x64, .f32⟩
  | 17 => ⟨S2x1024x4x64, .f32⟩
  | 18 => ⟨S_, .f32⟩
  | 19 => ⟨S2x1024x4x64, .f32⟩
  | 20 => ⟨S2x1024x4x64, .f32⟩
  | 21 => ⟨S_, .f32⟩
  | 22 => ⟨S2x1024x4x64, .f32⟩
  | 23 => ⟨S2x1024x4x64, .f32⟩
  | 24 => ⟨S2x1024x4x64, .f32⟩
  | 25 => ⟨S_, .f32⟩
  | 26 => ⟨S2x1024x4x64, .f32⟩
  | 27 => ⟨S2x1024x4x64, .f32⟩
  | 28 => ⟨S_, .f32⟩
  | 29 => ⟨S2x1024x4x64, .f32⟩
  | 30 => ⟨S2x1024x4x64, .f32⟩
  | 31 => ⟨S_, .f32⟩
  | 32 => ⟨S_, .f32⟩
  | 33 => ⟨S_, .f32⟩
  | 34 => ⟨S2x1024x4x64, .f32⟩
  | 35 => ⟨S2x1024x4x64, .f32⟩
  | 36 => ⟨S_, .f32⟩
  | 37 => ⟨S2x1024x4x64, .f32⟩
  | 38 => ⟨S2x1024x4x64, .f32⟩
  | 39 => ⟨S_, .f32⟩
  | 40 => ⟨S2x1024x4x64, .f32⟩
  | 41 => ⟨S2x1024x4x64, .f32⟩
  | 42 => ⟨S_, .f32⟩
  | 43 => ⟨S2x1024x4x64, .f32⟩
  | 44 => ⟨S2x1024x4x64, .f32⟩
  | 45 => ⟨S2x1024x4x64, .f32⟩
  | 46 => ⟨S_, .f32⟩
  | 47 => ⟨S2x1024x4x64, .f32⟩
  | 48 => ⟨S2x1024x4x64, .f32⟩
  | 49 => ⟨S_, .f32⟩
  | 50 => ⟨S2x1024x4x64, .f32⟩
  | 51 => ⟨S2x1024x4x64, .f32⟩
  | 52 => ⟨S2x1024x256, .f32⟩
  | 53 => ⟨S2x1024x4x64, .f32⟩
  | 54 => ⟨S1024, .i32⟩
  | 55 => ⟨S_, .i32⟩
  | 56 => ⟨S_, .i32⟩
  | 57 => ⟨S1024, .i32⟩
  | 58 => ⟨S1024, .i32⟩
  | 59 => ⟨S1024, .i32⟩
  | 60 => ⟨S_, .i32⟩
  | 61 => ⟨S1024, .i32⟩
  | 62 => ⟨S1024, .i1⟩
  | 63 => ⟨S1024, .i32⟩
  | 64 => ⟨S1024, .i32⟩
  | 65 => ⟨S_, .i32⟩
  | 66 => ⟨S1024, .i32⟩
  | 67 => ⟨S1024, .i1⟩
  | 68 => ⟨S1024, .i1⟩
  | 69 => ⟨S_, .i32⟩
  | 70 => ⟨S1024, .i32⟩
  | 71 => ⟨S1024, .i32⟩
  | 72 => ⟨S1024, .i32⟩
  | 73 => ⟨S1024x1, .i32⟩
  | 74 => ⟨S1024, .i32⟩
  | 75 => ⟨S_, .i32⟩
  | 76 => ⟨S_, .i32⟩
  | 77 => ⟨S1024, .i32⟩
  | 78 => ⟨S1024, .i32⟩
  | 79 => ⟨S1024, .i32⟩
  | 80 => ⟨S_, .i32⟩
  | 81 => ⟨S1024, .i32⟩
  | 82 => ⟨S1024, .i1⟩
  | 83 => ⟨S1024, .i32⟩
  | 84 => ⟨S1024, .i32⟩
  | 85 => ⟨S_, .i32⟩
  | 86 => ⟨S1024, .i32⟩
  | 87 => ⟨S1024, .i1⟩
  | 88 => ⟨S1024, .i1⟩
  | 89 => ⟨S_, .i32⟩
  | 90 => ⟨S1024, .i32⟩
  | 91 => ⟨S1024, .i32⟩
  | 92 => ⟨S1024, .i32⟩
  | 93 => ⟨S1x1024, .i32⟩
  | 94 => ⟨S1024x1024, .i32⟩
  | 95 => ⟨S1024x1024, .i32⟩
  | 96 => ⟨S1024x1024, .i1⟩
  | 97 => ⟨S2x4x1024x1024, .f32⟩
  | 98 => ⟨S_, .f32⟩
  | 99 => ⟨S2x4x1024x1024, .f32⟩
  | 100 => ⟨S2x4x1024x1024, .f32⟩
  | 101 => ⟨S1x1x1024x1024, .i1⟩
  | 102 => ⟨S_, .f32⟩
  | 103 => ⟨S_, .f32⟩
  | 104 => ⟨S2x4x1024x1024, .i1⟩
  | 105 => ⟨S2x4x1024x1024, .f32⟩
  | 106 => ⟨S2x4x1024x1024, .f32⟩
  | 107 => ⟨S_, .f32⟩
  | 108 => ⟨S2x4x1024, .f32⟩
  | 109 => ⟨S2x4x1024x1, .f32⟩
  | 110 => ⟨S2x4x1024x1024, .f32⟩
  | 111 => ⟨S2x4x1024x1024, .f32⟩
  | 112 => ⟨S2x4x1024x1024, .f32⟩
  | 113 => ⟨S_, .i1⟩
  | 114 => ⟨S1024, .i1⟩
  | 115 => ⟨S1x1x1024x1, .i1⟩
  | 116 => ⟨S_, .f32⟩
  | 117 => ⟨S2x4x1024, .f32⟩
  | 118 => ⟨S2x4x1024x1, .f32⟩
  | 119 => ⟨S_, .f32⟩
  | 120 => ⟨S_, .f32⟩
  | 121 => ⟨S2x4x1024x1, .i1⟩
  | 122 => ⟨S2x4x1024x1, .f32⟩
  | 123 => ⟨S2x4x1024x1, .f32⟩
  | 124 => ⟨S2x4x1024x1024, .f32⟩
  | 125 => ⟨S2x4x1024x1024, .f32⟩
  | 126 => ⟨S1x1x1024x1, .i1⟩
  | 127 => ⟨S_, .f32⟩
  | _ => ⟨S2x1024x512, .bf16⟩

abbrev hbmTy0_1 (i : Nat) : BufTy := match i % 128 with
  | 0 => ⟨S_, .f32⟩
  | 1 => ⟨S2x4x1024x1024, .i1⟩
  | 2 => ⟨S2x4x1024x1024, .f32⟩
  | 3 => ⟨S2x4x1024x1024, .f32⟩
  | 4 => ⟨S2x4x64x1024, .f32⟩
  | 5 => ⟨S2x1024x4x64, .f32⟩
  | 6 => ⟨S2x1024x256, .f32⟩
  | 7 => ⟨S2x1024x512, .f32⟩
  | _ => ⟨S2x1024x512, .bf16⟩

abbrev hbmTy (i : Nat) : BufTy := match i / 128 with
  | 0 => hbmTy0_0 i
  | 1 => hbmTy0_1 i
  | _ => ⟨S2x1024x512, .bf16⟩

abbrev bufTy : (tb : Table) → Fin (tcTables nBuf tb) → BufTy
  | .hbm, ⟨i, _⟩ => hbmTy i
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_cst_6 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v15 : Ref sig .tc := ⟨.hbm, 38, rfl⟩
abbrev main_cst_7 : Ref sig .tc := ⟨.hbm, 39, rfl⟩
abbrev main_v16 : Ref sig .tc := ⟨.hbm, 40, rfl⟩
abbrev main_v17 : Ref sig .tc := ⟨.hbm, 41, rfl⟩
abbrev main_cst_8 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_9 : Ref sig .tc := ⟨.hbm, 46, rfl⟩
abbrev main_v21 : Ref sig .tc := ⟨.hbm, 47, rfl⟩
abbrev main_v22 : Ref sig .tc := ⟨.hbm, 48, rfl⟩
abbrev main_cst_10 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_v5 : Ref sig .tc := ⟨.hbm, 61, rfl⟩
abbrev main_call4_v6 : Ref sig .tc := ⟨.hbm, 62, rfl⟩
abbrev main_call4_v7 : Ref sig .tc := ⟨.hbm, 63, rfl⟩
abbrev main_call4_v8 : Ref sig .tc := ⟨.hbm, 64, rfl⟩
abbrev main_call4_c : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_c_0 : Ref sig .tc := ⟨.hbm, 69, rfl⟩
abbrev main_call4_v12 : Ref sig .tc := ⟨.hbm, 70, rfl⟩
abbrev main_call4_v13 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c_11 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_c : Ref sig .tc := ⟨.hbm, 85, rfl⟩
abbrev main_call5_v9 : Ref sig .tc := ⟨.hbm, 86, rfl⟩
abbrev main_call5_v10 : Ref sig .tc := ⟨.hbm, 87, rfl⟩
abbrev main_call5_v11 : Ref sig .tc := ⟨.hbm, 88, rfl⟩
abbrev main_call5_c_0 : Ref sig .tc := ⟨.hbm, 89, rfl⟩
abbrev main_call5_v12 : Ref sig .tc := ⟨.hbm, 90, rfl⟩
abbrev main_call5_v13 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_12 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_cst_13 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v40 : Ref sig .tc := ⟨.hbm, 106, rfl⟩
abbrev main_cst_14 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_c_15 : Ref sig .tc := ⟨.hbm, 113, rfl⟩
abbrev main_v46 : Ref sig .tc := ⟨.hbm, 114, rfl⟩
abbrev main_v47 : Ref sig .tc := ⟨.hbm, 115, rfl⟩
abbrev main_cst_16 : Ref sig .tc := ⟨.hbm, 116, rfl⟩
abbrev main_v48 : Ref sig .tc := ⟨.hbm, 117, rfl⟩
abbrev main_v49 : Ref sig .tc := ⟨.hbm, 118, rfl⟩
abbrev main_cst_17 : Ref sig .tc := ⟨.hbm, 119, rfl⟩
abbrev main_call7_v0 : Ref sig .tc := ⟨.hbm, 120, rfl⟩
abbrev main_call7_v1 : Ref sig .tc := ⟨.hbm, 121, rfl⟩
abbrev main_call7_v2 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_cst_18 : Ref sig .tc := ⟨.hbm, 127, rfl⟩
abbrev main_call8_v0 : Ref sig .tc := ⟨.hbm, 128, rfl⟩
abbrev main_call8_v1 : Ref sig .tc := ⟨.hbm, 129, rfl⟩
abbrev main_call8_v2 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩

abbrev nD : Nat := 1
abbrev τ : Topo := Topo.v7x

variable {F : FTy → Type} [FloatOps F]
-- ==== Proof.Proto.lean ====
/-
  The kernel's protocol, stated at a symbolic device.

  Every device `c` of the eight owns 17 cells: its barrier, eight send semaphores and eight receive semaphores.
  * Barrier of `c`: every later device `d > c` signals it once. The signal says that `d` is inside its kernel, and it
    hands `c` slot `c` of `d`'s buffer, which `c` will fill. Device `c` waits `7 - c` times for one unit.
  * Receive `i` of `c` (for `i < c`): device `i`'s copy into slot `i` of `c`'s buffer lands on it. The landing hands
    `c` that slot with device `i`'s quantised keys and values in it.
  * Send `i` of `c` (for `i > c`): `c`'s own copy to device `i` completes on it, and hands back the share of slot `c`
    that the copy reads from.
  Waiting order: barrier below receive, so no device waits for something that is owed behind its own wait.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

/-! ## The resource algebra -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Cells -/

/-- The barrier semaphore. -/
abbrev barS : Sem sig := (SemArray.scalar (sig.barrier 0 rfl) : Sems sig S_).sem

/-- The kinds of cell of one device: the barrier, the send semaphores, the receive semaphores. -/
abbrev Kx : Type := Option (Bool × Fin 8)

theorem sem_lt (b : Bool) (i : Fin 8) : (if b then 14 else 6) + i.val < sig.nDmaSem := by revert b i; decide

/-- The semaphore of a kind: sends are numbers 6 to 13, receives 14 to 21. -/
def ksem : Kx → SemLoc sig
  | none => .reg barS
  | some (b, i) => .dma ⟨(if b then 14 else 6) + i.val, sem_lt b i⟩

abbrev kcell (ck : Dev nD × Kx) : GSem nD τ sig := ((ck.1 : Thread nD τ), ksem ck.2)
abbrev barCell (c : Dev nD) : GSem nD τ sig := kcell (c, none)
abbrev sendCell (c : Dev nD) (i : Fin 8) : GSem nD τ sig := kcell (c, some (false, i))
abbrev recvCell (c : Dev nD) (i : Fin 8) : GSem nD τ sig := kcell (c, some (true, i))

theorem ksem_injective : Function.Injective ksem := by
  rintro (_ | ⟨b, i⟩) (_ | ⟨b', i'⟩) h
  · rfl
  · cases h
  · cases h
  · have h1 : (if b then 14 else 6) + i.val = (if b' then 14 else 6) + i'.val := by
      unfold ksem at h
      exact congrArg Fin.val (SemLoc.dma.inj h)
    have : b = b' ∧ i = i' := by
      have := i.isLt; have := i'.isLt
      cases b <;> cases b' <;> simp at h1 ⊢ <;> omega
    rw [this.1, this.2]

theorem kcell_injective : Function.Injective (kcell : Dev nD × Kx → GSem nD τ sig) := by
  rintro ⟨c, k⟩ ⟨c', k'⟩ h
  have h1 : c = c' := congrArg (fun g : GSem nD τ sig => g.1.1) h
  have h2 : k = k' := ksem_injective (congrArg Prod.snd h)
  rw [h1, h2]

theorem kcell_inj_iff (a b : Dev nD × Kx) : kcell a = kcell b ↔ a = b := kcell_injective.eq_iff

/-- A function of the named cells, as a function of every cell (`d` elsewhere). -/
def lift {α : Type} (f : Dev nD × Kx → α) (d : α) (g : GSem nD τ sig) : α :=
  open Classical in if h : ∃ ck, kcell ck = g then f h.choose else d

theorem lift_kcell {α : Type} (f : Dev nD × Kx → α) (d : α) (ck : Dev nD × Kx) : lift f d (kcell ck) = f ck := by
  have h : ∃ ck', kcell ck' = kcell ck := ⟨ck, rfl⟩
  unfold lift; rw [dif_pos h, kcell_injective h.choose_spec]

/-! ## The slots of the buffer -/

/-- The credit of one slot's copy. -/
theorem slot_inb (o : Fin 8) : ∀ a, (![o.val, 0, 0, 0, 0] : Fin 5 → Nat) a + S1x2x2x128x256.size a ≤ S8x2x2x128x256.size a := by
  revert o; decide

/-- Slot `o`: the `o`-th of the eight blocks of the buffer. -/
abbrev slotRect (o : Fin 8) : Rect S8x2x2x128x256 := Rect.unit ![o.val, 0, 0, 0, 0] S1x2x2x128x256.size (slot_inb o)
abbrev slotM (o : Fin 8) : Memref sig .tc .vmem S2x2x128x256 .i8 :=
  ((Memref.whole cc0_scratch0).slice (slotRect o) (fun _ => rfl)).squeeze S2x2x128x256 squeezes_S1x2x2x128x256_S2x2x128x256

/-- The elements of slot `o`: those whose leading coordinate is `o`. -/
def slotSet (o : Fin 8) : Finset S8x2x2x128x256.Idx := Finset.univ.filter fun j => (j 0).val = o.val

theorem mem_slotSet (o : Fin 8) (j : S8x2x2x128x256.Idx) : j ∈ slotSet o ↔ (j 0).val = o.val := by
  unfold slotSet; rw [Finset.mem_filter]; exact ⟨fun h => h.2, fun h => ⟨Finset.mem_univ _, h⟩⟩

abbrev kvLoc (c : Dev nD) : Loc nD τ sig := (c : Thread nD τ).loc cc0_scratch0

/-- Slot `o` of device `c`'s buffer, held at share `q` with contents `f`. -/
def slotPts (c : Dev nD) (o : Fin 8) (q : PosShare TreeShare) (f : Buf (Elt F) (kvLoc c)) : sProp 𝕄 :=
  kvLoc c ↦[slotSet o]{q} f

omit [FloatOps F] [Named F] in
instance slotPts_storable (c : Dev nD) (o : Fin 8) (q) (f) : BI.Storable (upEmb : UEmb _ 𝕄) (slotPts (F := F) c o q f) := by
  unfold slotPts; infer_instance

/-- The units that one slot's copy credits. -/
abbrev N : ℕ := (slotM 0).view.dmaCredit
theorem N_pos : 0 < N := View.dmaCredit_pos _ (by decide)

/-! ## Contents -/

/-- The staged inputs of device `c`. -/
def inX (c : Dev nD) : Vec F S2x128x512 .bf16 := iblk m c 0 t0_0
def inWq (c : Dev nD) : Vec F S512x256 .bf16 := iblk m c 1 t0_0
def inK (c : Dev nD) : Vec F S2x128x4x64 .bf16 := iblk m c 2 t0_0
def inV (c : Dev nD) : Vec F S2x128x4x64 .bf16 := iblk m c 3 t0_0
def inWo (c : Dev nD) : Vec F S256x512 .bf16 := iblk m c 4 t0_0

/-- Device `c`'s quantised keys and values, as it stores them. -/
def packed (c : Dev nD) : IVec S1x2x2x128x256 8 :=
  k0_pay3 (k0_pay1 (inK m c)) (k0_pay2 (inV m c)) (Scalar.ofBits .f32 0xC0900000#32)

/-- An element of the buffer, seen inside its own slot. -/
def low (j : S8x2x2x128x256.Idx) : S1x2x2x128x256.Idx
  | 0 => (⟨0, by decide⟩ : Fin 1)
  | 1 => j 1
  | 2 => j 2
  | 3 => j 3
  | 4 => j 4

/-- The buffer with every device's keys and values in it: slot `o` holds device `o`'s. -/
def kvT : S8x2x2x128x256.Idx → BitVec 8 := fun j => packed m (j 0) (low j)

/-- What device `c` attends to: the slots up to its own, zero behind. -/
def kvAt (c : Dev nD) : S8x2x2x128x256.Idx → BitVec 8 := fun j => if (j 0).val ≤ c.val then kvT m j else 0#8

/-- The share of slot `c` that the copy to device `i` reads from. -/
abbrev qS (i : Fin 8) : PosShare TreeShare := shareTok fullShare.right 8 i

/-! ## The schedule -/

def dutyOf : Dev nD × Kx → Finset (Fin 8)
  | (c, none) => Finset.univ.filter fun d => c.val < d.val
  | (c, some (false, i)) => if c.val < i.val then {0} else ∅
  | (c, some (true, i)) => if i.val < c.val then {0} else ∅

def amtOf : Dev nD × Kx → ℕ
  | (c, none) => 1
  | (c, some _) => N

def payOf : Dev nD × Kx → Fin 8 → sProp 𝕄
  | (c, none), d => iprop(∃ f, slotPts d c fullShare f)
  | (c, some (false, i)), _ => slotPts c c (qS i) (kvT m)
  | (c, some (true, i)), _ => slotPts c i fullShare (kvT m)

theorem amtOf_pos (ck) : 0 < amtOf ck := by
  rcases ck with ⟨c, _ | k⟩
  · exact Nat.one_pos
  · exact N_pos

/-- One round, round 0, of every cell. -/
def Rd : Rounds.Schedule (GSem nD τ sig) (Fin 8) 𝕄 where
  duties g r := if r = 0 then (lift (fun ck => dutyOf ck) ∅ g) else ∅
  unitless _ := False
  amount g _ _ := (lift (fun ck => amtOf ck) 1 g)
  payload g _ d := lift (fun ck => payOf m ck d) iprop(emp) g
  amount_pos g _ _ _ := by
    unfold lift; split
    · exact amtOf_pos _
    · exact Nat.one_pos

omit [FloatOps F] [Named F] in
theorem emp_storable' : BI.Storable (upEmb : UEmb _ 𝕄) (iprop(emp) : sProp 𝕄) := inferInstance

instance payOf_storable (ck) (d) : BI.Storable (upEmb : UEmb _ 𝕄) (payOf (F := F) m ck d) := by
  rcases ck with ⟨c, _ | ⟨_ | _, i⟩⟩ <;> unfold payOf <;> infer_instance

instance Rd_payload_storable (g : GSem nD τ sig) (r : ℕ) (d : Fin 8) :
    BI.Storable (upEmb : UEmb _ 𝕄) ((Rd (F := F) m).payload g r d) := by
  show BI.Storable upEmb (lift (fun ck => payOf m ck d) iprop(emp) g)
  unfold lift; split <;> infer_instance

theorem duties_k (ck) : (Rd (F := F) m).duties (kcell ck) 0 = dutyOf ck := by
  show (if (0 : ℕ) = 0 then (lift (fun ck => dutyOf ck) ∅ (kcell ck)) else ∅) = _
  rw [if_pos rfl, lift_kcell]
theorem duties_later (g : GSem nD τ sig) : ∀ r, 1 ≤ r → (Rd (F := F) m).duties g r = ∅ := fun r hr => by
  show (if r = 0 then _ else ∅) = _
  rw [if_neg (by omega)]
theorem amount_k (ck) (r d) : (Rd (F := F) m).amount (kcell ck) r d = amtOf ck := by
  show (lift (fun ck => amtOf ck) 1 (kcell ck)) = _
  rw [lift_kcell]
theorem payload_k (ck) (r d) : (Rd (F := F) m).payload (kcell ck) r d = payOf m ck d := by
  show lift (fun ck => payOf m ck d) iprop(emp) (kcell ck) = _
  rw [lift_kcell]
theorem expect_k (ck) : (Rd (F := F) m).expect (kcell ck) 0 = (dutyOf ck).card * amtOf ck := by
  unfold Schedule.expect Schedule.amountOf
  rw [duties_k, Finset.sum_congr rfl fun d _ => amount_k m ck 0 d, Finset.sum_const, smul_eq_mul]

theorem mem_duty_bar (c : Dev nD) (d : Fin 8) : d ∈ dutyOf (c, none) ↔ c.val < d.val := by
  show d ∈ Finset.univ.filter _ ↔ _
  rw [Finset.mem_filter]; exact ⟨fun h => h.2, fun h => ⟨Finset.mem_univ _, h⟩⟩
theorem card_duty_bar (c : Dev nD) : (dutyOf (c, none)).card = 7 - c.val := by revert c; decide
theorem duty_send {c : Dev nD} {i : Fin 8} (h : c.val < i.val) : dutyOf (c, some (false, i)) = {0} := if_pos h
theorem duty_recv {c : Dev nD} {i : Fin 8} (h : i.val < c.val) : dutyOf (c, some (true, i)) = {0} := if_pos h
theorem duty_send_none {c : Dev nD} {i : Fin 8} (h : ¬ c.val < i.val) : dutyOf (c, some (false, i)) = ∅ := if_neg h
theorem duty_recv_none {c : Dev nD} {i : Fin 8} (h : ¬ i.val < c.val) : dutyOf (c, some (true, i)) = ∅ := if_neg h

/-! ## What each device owes, and the levels -/

/-- The landings that device `c` still owes from device `n` on. -/
def oRecv (c : Dev nD) (n : ℕ) : CellTallies nD τ sig Unit :=
  ∑ o ∈ rangeSet 8 n 8, tallyAt (recvCell o c) () N
/-- The signals that device `c` still owes, to the devices from `n` up to its own number. -/
def oBar (c : Dev nD) (n : ℕ) : CellTallies nD τ sig Unit :=
  ∑ o ∈ rangeSet 8 n c.val, tallyAt (barCell o) () 1
def O₀ (c : Dev nD) : CellTallies nD τ sig Unit := oRecv c (c.val + 1) + oBar c 0

def L (g : GSem nD τ sig) : Finset Unit := if g.1.2 = .tc then {()} else ∅
def lvK : Dev nD × Kx → ℕ
  | (_, none) => 1
  | (_, some (true, _)) => 2
  | (_, some (false, _)) => 0
def lv (g : GSem nD τ sig) (_ : Unit) : ℕ := (lift (fun ck => lvK ck) 0 g)

theorem lv_k (ck) : lv (kcell ck) () = lvK ck := by unfold lv; rw [lift_kcell]
theorem L_of_ne (g : GSem nD τ sig) (h : g.1.2 ≠ .tc) : L g = ∅ := if_neg h
theorem L_k (ck : Dev nD × Kx) : L (kcell ck) = {()} := if_pos rfl

end Cert.KernelIdeal.Run

end
-- ==== Proof.Steps.lean ====
/-
  One lemma for each kind of conditional step of the kernel: a signal to an earlier device's barrier, and a wait of
  one unit on the own barrier. Each covers both branches.
-/
module

public import proofs.«01_k».proof.Proof.Proto

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant and that it has reached round 0, and the levels: known to every device. -/
def records (K : Dev nD × Kx → ℕ) : sProp 𝕄 :=
  iprop((bigSep Finset.univ fun ck => cellInv ER (Rd m) (K ck) (kcell ck))
    ∗ (bigSep Finset.univ fun ck => reached ER (kcell ck) 0) ∗ levAts L lv)

instance records_persistent (K) : BI.Persistent (records (F := F) m K) := by unfold records; infer_instance

variable (K : Dev nD × Kx → ℕ)

theorem inv_all (ck) : (bigSep Finset.univ fun ck => cellInv ER (Rd (F := F) m) (K ck) (kcell ck) : sProp 𝕄)
    ⊢ cellInv ER (Rd (F := F) m) (K ck) (kcell ck) := bigSep_elim (Finset.mem_univ ck)
theorem reached_all (ck) : (bigSep Finset.univ fun ck => reached ER (kcell ck) 0 : sProp 𝕄) ⊢ reached ER (kcell ck) 0 :=
  bigSep_elim (Finset.mem_univ ck)
theorem inv_at (ck) : records m K ⊢ cellInv ER (Rd (F := F) m) (K ck) (kcell ck) := by
  unfold records; iintro ⟨#H, -, -⟩
  iapply (inv_all m K ck); iexact H
theorem reached_at (ck) : records (F := F) m K ⊢ reached ER (kcell ck) 0 := by
  unfold records; iintro ⟨-, #H, -⟩
  iapply (reached_all ck); iexact H
theorem lev_at : records (F := F) m K ⊢ levAts L lv := by
  unfold records; iintro ⟨-, -, #H⟩; iexact H

/-- What device `c` owes, the waits it has behind it left open. -/
def owesE (c : Dev nD) (O : CellTallies nD τ sig Unit) : sProp 𝕄 := iprop(∃ W, owes (c : Thread nD τ) O W)

/-! ## Signals -/

/-- Before signal `n`: the signals from `n` on are owed, with their tokens and the slots they hand over. -/
def stA (c : Dev nD) (n : ℕ) : sProp 𝕄 :=
  iprop(owesE c (oRecv c (c.val + 1) + oBar c n)
    ∗ bigSep (rangeSet 8 n c.val) fun o => iprop(dutyTok ER (barCell o) 0 c ∗ ∃ f, slotPts c o fullShare f))

theorem oBar_head (c : Dev nD) (n : Fin 8) (h : n.val < c.val) :
    oBar c n.val = oBar c (n.val + 1) + tallyAt (barCell n) () 1 := by
  unfold oBar; rw [rangeSet_head h n.isLt, Finset.sum_insert (head_not_mem_rangeSet n.isLt), add_comm]

theorem stA_skip (c : Dev nD) (n : ℕ) (h : ¬ n < c.val) : stA (F := F) c n = stA c (n + 1) := by
  unfold stA oBar; rw [rangeSet_empty (by omega : c.val ≤ n), rangeSet_empty (by omega : c.val ≤ n + 1)]

theorem sig_step (c : Dev nD) (n : Fin 8) {p : Prop} [Decidable p] (hp : p ↔ n.val < c.val) (dev : p → Dev nD)
    (hdev : ∀ h, dev h = n) {α : Type} (q : Prog (TpuEff nD τ sig (Elt F) Λ₀ .tc) α) (Q : α → sProp 𝕄) :
    iprop(records m K ∗ stA c n.val) ⊢ iprop((stA c (n.val + 1) -∗ WP c q Q)
      -∗ WP c (if h : p then (semSignalWord (dev h) barS 1#32 >>= fun _ => q) else q) Q) := by
  by_cases h : p
  · rw [dif_pos h, hdev h]
    have hn := hp.1 h
    show _ ⊢ iprop(_ -∗ WP c (.op (.semSignal ((n : Dev nD) : Thread nD τ) barS (1 : ℕ)) fun _ => q) Q)
    unfold stA owesE
    rw [bigSep_rangeSet_head (Φ := fun o => iprop(dutyTok ER (barCell o) 0 c ∗ ∃ f, slotPts (F := F) c o fullShare f)) hn n.isLt]
    iintro ⟨#Hr, ⟨%W, HO⟩, ⟨Ht, Hs⟩, Hrest⟩ Hk
    iapply (Rounds.wp_signal 𝒱₀ ER (Rd m) (c : Thread nD τ) none (dst := ((n : Dev nD) : Thread nD τ)) (κ := K (n, none)) (r := 0)
      (d := c) ((duties_k m (n, none)).symm ▸ (mem_duty_bar n c).2 hn) (amount_k m (n, none) 0 c) ()
      (O₀ := oRecv c (c.val + 1) + oBar c n.val)
      (oRecv c (c.val + 1) + oBar c (n.val + 1)) (by rw [oBar_head c n hn, add_assoc]; rfl)) $$ [HO Ht Hs]
    · isplitr; · iapply (inv_at m K (n, none)); iexact Hr
      isplitl [HO]; · iexact HO
      isplitl [Ht]; · iexact Ht
      isplitl [Hs]; · iapply (show iprop(∃ f, slotPts (F := F) c n fullShare f) ⊢ (Rd m).payload (((n : Dev nD) : Thread nD τ), .reg barS) 0 c from Entails.of_eq (payload_k m (n, none) 0 c).symm); iexact Hs
      iapply (reached_at m K (n, none)); iexact Hr
    iintro HO
    iapply Hk
    isplitl [HO]; · iexists W; iexact HO
    iexact Hrest
  · rw [dif_neg h, stA_skip c n.val (fun h' => h (hp.2 h'))]
    iintro ⟨-, H⟩ Hk
    iapply Hk; iexact H

/-! ## Barrier waits -/

omit [FloatOps F] [Named F] in
theorem sdiff_split {I : Type} [DecidableEq I] {s t : Finset I} (h : t ⊆ s) {Φ : I → sProp 𝕄} :
    bigSep s Φ = iprop(bigSep t Φ ∗ bigSep (s \ t) Φ) := BI.bigSep_sdiff_split h

/-- Before barrier wait `k`: the units of `k` waits (at most `7 - c`) are taken, the payloads of `S` received. -/
def stB (c : Dev nD) (k : ℕ) : sProp 𝕄 :=
  iprop(owesE c (oRecv c (c.val + 1)) ∗ cred (tallyAt (barCell c) () (7 - c.val - k))
    ∗ ∃ S : Finset (Fin 8), ⌜S ⊆ dutyOf (c, none) ∧ min k (7 - c.val) + (dutyOf (c, none) \ S).card ≤ 7 - c.val⌝
      ∗ atPos ER (barCell c) 0 S (min k (7 - c.val)) ∗ bigSep S fun d => iprop(∃ f, slotPts d c fullShare f))

theorem oRecv_pos {c : Dev nD} {n : ℕ} {g : GSem nD τ sig} {u : Unit} (h : 0 < oRecv c n g u) : ∃ o, g = recvCell o c := by
  unfold oRecv at h
  rw [Finset.sum_apply, Finsupp.finset_sum_apply] at h
  obtain ⟨o, -, ho⟩ := Finset.exists_ne_zero_of_sum_ne_zero (Nat.pos_iff_ne_zero.1 h)
  refine ⟨o, ?_⟩
  rw [tallyAt_apply] at ho
  by_contra hg
  exact ho (if_neg fun h' => hg h'.1)

omit [FloatOps F] [Named F] in
theorem mayWait_bar (c : Dev nD) (n : ℕ) :
    (levAts L lv : sProp 𝕄) ⊢ MayWait (c : Thread nD τ) (.reg barS) () (oRecv c n) :=
  MayOwe.of_cut (L := L) (lev := lv) 1
    (fun p hp => by rw [Finset.mem_singleton.mp hp]; exact Finset.mem_singleton_self _)
    (fun g u hg => by obtain ⟨o, rfl⟩ := oRecv_pos hg; exact Finset.mem_singleton_self _)
    (fun p hp => by rw [Finset.mem_singleton.mp hp]; exact (lv_k (c, none)).le)
    (fun g u hg => by obtain ⟨o, rfl⟩ := oRecv_pos hg; rw [lv_k]; exact Nat.one_lt_two)

theorem barWait_step (c : Dev nD) (k : ℕ) {p : Prop} [Decidable p] (hp : p ↔ k < 7 - c.val)
    {α : Type} (q : Prog (TpuEff nD τ sig (Elt F) Λ₀ .tc) α) (Q : α → sProp 𝕄) :
    iprop(records m K ∗ stB c k) ⊢ iprop((stB c (k + 1) -∗ WP c q Q)
      -∗ WP c (if h : p then (semWaitWord barS 1#32 >>= fun _ => q) else q) Q) := by
  by_cases h : p
  · rw [dif_pos h]
    have hk := hp.1 h
    show _ ⊢ iprop(_ -∗ WP c (.op (.semWait barS (1 : ℕ)) fun _ => q) Q)
    unfold stB owesE
    rw [show 7 - c.val - k = 1 + (7 - c.val - (k + 1)) by omega, ← tallyAt_add]
    iintro ⟨#Hr, ⟨%W, HO⟩, Hc, %S, %hS, Hat, Hp⟩ Hk
    ihave Hc' := (cred_add _ _).1 $$ Hc
    icases Hc' with ⟨Hc1, Hc⟩
    iapply (Rounds.wp_wait 𝒱₀ ER (Rd m) (c : Thread nD τ) none (κ := K (c, none))
      (wpE_semWait_eq 𝒱₀ (c : Thread nD τ) none Set.univ) (Set.mem_univ _) (cr := Finsupp.single () 1) (O := oRecv c (c.val + 1)) (W := W)
      {(.reg barS, ())} (R := 0) (m := min k (7 - c.val)) (T := S) (by simp) (by simp)) $$ [HO Hc1 Hat]
    · isplitr; · iapply (inv_at m K (c, none)); iexact Hr
      isplitl [Hc1]; · iexact Hc1
      isplitl [HO]; · iexact HO
      isplitr; · iapply (mayWait_bar c); iapply (lev_at m K); iexact Hr
      iexact Hat
    iintro %S' ⟨%hS', HO, Hat, Hp'⟩
    iapply Hk
    isplitl [HO]; · iexists _; iexact HO
    isplitl [Hc]; · iexact Hc
    iexists S'
    have hm : min (k + 1) (7 - c.val) = min k (7 - c.val) + 1 := by omega
    have hE : (Rd (F := F) m).expect ((c : Thread nD τ), .reg barS) 0 = 7 - c.val := by
      have := expect_k m (c, none); rw [card_duty_bar] at this; exact this.trans (Nat.mul_one _)
    have hD : (Rd (F := F) m).duties ((c : Thread nD τ), .reg barS) 0 = dutyOf (c, none) := duties_k m (c, none)
    rw [hE, hD] at hS'
    rw [hm]
    isplitr; · ipureintro; exact ⟨hS'.2.1, hS'.2.2⟩
    isplitl [Hat]; · iexact Hat
    rw [sdiff_split hS'.1 (Φ := fun d => iprop(∃ f, slotPts (F := F) d c fullShare f))]
    isplitl [Hp]; · iexact Hp
    iapply (Entails.of_eq (BI.bigSep_congr fun d _ => payload_k m (c, none) 0 d)); iexact Hp'
  · rw [dif_neg h]
    have hk : ¬ k < 7 - c.val := fun h' => h (hp.2 h')
    have e : stB (F := F) c (k + 1) = stB c k := by
      unfold stB
      rw [show min (k + 1) (7 - c.val) = min k (7 - c.val) by omega, show 7 - c.val - (k + 1) = 7 - c.val - k by omega]
    rw [e]
    iintro ⟨-, H⟩ Hk
    iapply Hk; iexact H

end Cert.KernelIdeal.Run

end
-- ==== Proof.Slots.lean ====
/-
  The slots of the buffer as the kernel reaches them: through a unit rectangle at a computed offset. A store into a
  slot, the copy of a slot between two devices, the semaphores at computed offsets.
-/
module

public import proofs.«01_k».proof.Proof.Steps

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The elements of a slot -/

theorem slotRect_set (o : Fin 8) {off : Fin 5 → ℕ} (hoff : off = ![o.val, 0, 0, 0, 0])
    (inb : ∀ a, off a + S1x2x2x128x256.size a ≤ S8x2x2x128x256.size a) :
    (Rect.unit (s := S8x2x2x128x256) off S1x2x2x128x256.size inb).set = slotSet o := by
  subst hoff
  ext j
  rw [Rect.mem_set_unit, mem_slotSet]
  constructor
  · intro h; have := h 0; simp at this; omega
  · intro h a
    have := (j a).isLt
    fin_cases a <;> simp at this ⊢ <;> omega

theorem slotM_set (o : Fin 8) : (slotM o).view.set = slotSet o := by
  rw [Memref.set_view_squeeze]
  exact (View.set_slice_whole cc0_scratch0 (slotRect o)).trans (slotRect_set o rfl _)

/-- An element of slot `o` is the slot's element at the same lower coordinates. -/
theorem emb_low (o : Fin 8) (j : S8x2x2x128x256.Idx) (h : j ∈ slotSet o) : (slotRect o).emb (low j) = j := by
  rw [mem_slotSet] at h
  funext a
  apply Fin.ext
  rw [Rect.emb_apply]
  fin_cases a <;> simp [low, h]

theorem low_emb (o : Fin 8) (y : S1x2x2x128x256.Idx) : low ((slotRect o).emb y) = y := by
  funext a
  have h0 : (y 0).val < 1 := (y 0).isLt
  apply Fin.ext
  fin_cases a
  · show 0 = (y 0).val; omega
  all_goals simp [low]

omit [FloatOps F] [Named F] in
theorem slotPts_congr (c : Dev nD) (o : Fin 8) (q) (f g : S8x2x2x128x256.Idx → BitVec 8) (h : ∀ j, (j 0).val = o.val → f j = g j) :
    slotPts (F := F) c o q f = slotPts c o q g :=
  pointsTo_congr fun j hj => h j ((mem_slotSet o j).1 hj)

/-- A store of `w` over the whole of slot `o`. -/
theorem store_slot (o : Fin 8) (f : cc0_scratch0.ty.Contents (Elt F)) (w : S1x2x2x128x256.Idx → BitVec 8)
    (j : S8x2x2x128x256.Idx) (h : (j 0).val = o.val) :
    ((Memref.whole cc0_scratch0).access (slotRect o)).write (Elt F) f w Finset.univ j = w (low j) := by
  have e := emb_low o j ((mem_slotSet o j).2 h)
  have := View.write_emb_of_mem (v := (Memref.whole cc0_scratch0).access (slotRect o)) (Val := Elt F) f w (Finset.mem_univ (low j))
  rw [show ((Memref.whole cc0_scratch0).access (slotRect o)).emb (low j) = j from e] at this
  exact this

/-- A load of slot `o`, and a store of `w` over all of it. -/
theorem slot_store (c : Dev nD) (o : Fin 8) {off : Fin 5 → ℕ} (hoff : off = ![o.val, 0, 0, 0, 0])
    {inb inb' : ∀ a, off a + S1x2x2x128x256.size a ≤ S8x2x2x128x256.size a} {w : S1x2x2x128x256.Idx → BitVec 8}
    {hl : (Memref.whole cc0_scratch0 : Memref sig .tc .vmem S8x2x2x128x256 .i8).view.LoadsAt (Rect.unit (s := S8x2x2x128x256) off S1x2x2x128x256.size inb).toLoadRect}
    {hx : ((Memref.whole cc0_scratch0 : Memref sig .tc .vmem S8x2x2x128x256 .i8).access (Rect.unit (s := S8x2x2x128x256) off S1x2x2x128x256.size inb')).Stores Finset.univ}
    {hm} {α : Type} (q : Prog (TpuEff nD τ sig (Elt F) Λ₀ .tc) α) (Q : α → sProp 𝕄) :
    iprop(∃ f, slotPts (F := F) c o fullShare f) ⊢ iprop((slotPts c o fullShare (fun j => w (low j)) -∗ WP c q Q)
      -∗ WP c (Prog.lift (.load (Memref.whole cc0_scratch0) (Rect.unit (s := S8x2x2x128x256) off S1x2x2x128x256.size inb).toLoadRect hl) >>= fun _ =>
          Prog.lift (.store (Memref.whole cc0_scratch0) (Rect.unit (s := S8x2x2x128x256) off S1x2x2x128x256.size inb') w Finset.univ hx hm) >>= fun _ => q) Q) := by
  have hset := slotRect_set o hoff inb
  subst hoff
  iintro ⟨%f, H⟩ Hk
  unfold slotPts
  simp only [Prog.lift, Prog.bind_op, Prog.bind_ret]
  iapply (wp_load 𝒱₀ (c : Thread nD τ) none Set.univ (m := Memref.whole cc0_scratch0) (S := slotSet o) (by
    intro j hj
    obtain ⟨x, hx, rfl⟩ := Finset.mem_map.mp hj
    exact hset ▸ hx)) $$ H
  iintro H
  iapply (wp_store 𝒱₀ (c : Thread nD τ) none Set.univ (m := Memref.whole cc0_scratch0) (r := slotRect o) (S := slotSet o) (by
    intro j hj
    obtain ⟨x, hx, rfl⟩ := Finset.mem_map.mp hj
    exact hset ▸ (Rect.map_emb_univ (slotRect o)) ▸ Finset.mem_map_of_mem _ hx)) $$ H
  iintro H
  iapply Hk
  have e := slotPts_congr (F := F) c o fullShare _ _ fun j hj => store_slot o f w j hj
  unfold slotPts at e
  iapply (Entails.of_eq e)
  iexact H

end Cert.KernelIdeal.Run

end
-- ==== Proof.Moves.lean ====
/-
  The remaining conditional steps of the kernel, one lemma for each kind and both branches: zeroing a slot behind the
  device, sending the own slot to a later device, waiting for an earlier device's slot, waiting for an own copy.
-/
module

public import proofs.«01_k».proof.Proof.Slots

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Kx → ℕ)

/-! ## The own slot -/

theorem own_slot (c : Dev nD) : slotPts (F := F) c c fullShare (fun j => packed m c (low j)) = slotPts c c fullShare (kvT m) :=
  slotPts_congr c c fullShare _ _ fun j hj => by
    unfold kvT
    rw [show (j 0 : Fin 8) = c from Fin.ext hj]

/-! ## Zeroing -/

/-- Before zeroing step `o`: the slots behind `c` from `o` on are anything, the ones before `o` hold what `c` attends to. -/
def stD (c : Dev nD) (o : ℕ) : sProp 𝕄 :=
  iprop((bigSep (rangeSet 8 (max (c.val + 1) o) 8) fun i => iprop(∃ f, slotPts c i fullShare f))
    ∗ bigSep (rangeSet 8 (c.val + 1) o) fun i => slotPts c i fullShare (kvAt m c))

theorem zero_step (c : Dev nD) (o : Fin 8) {p : Prop} [Decidable p] (hp : p ↔ c.val < o.val)
    {off : Fin 5 → ℕ} (hoff : off = ![o.val, 0, 0, 0, 0])
    {inb inb' : p → ∀ a, off a + S1x2x2x128x256.size a ≤ S8x2x2x128x256.size a} {w : S1x2x2x128x256.Idx → BitVec 8} (hw : ∀ y, w y = 0#8)
    {hl : ∀ h, (Memref.whole cc0_scratch0 : Memref sig .tc .vmem S8x2x2x128x256 .i8).view.LoadsAt (Rect.unit (s := S8x2x2x128x256) off S1x2x2x128x256.size (inb h)).toLoadRect}
    {hx : ∀ h, ((Memref.whole cc0_scratch0 : Memref sig .tc .vmem S8x2x2x128x256 .i8).access (Rect.unit (s := S8x2x2x128x256) off S1x2x2x128x256.size (inb' h))).Stores Finset.univ}
    {hm : ∀ h, (Finset.univ : Finset (Rect.unit (s := S8x2x2x128x256) off S1x2x2x128x256.size (inb' h)).shape.Idx) = Finset.univ ∨ ∀ a, (Rect.unit (s := S8x2x2x128x256) off S1x2x2x128x256.size (inb' h)).stride a = 1} {α : Type} (q : Prog (TpuEff nD τ sig (Elt F) Λ₀ .tc) α) (Q : α → sProp 𝕄) :
    stD m c o.val ⊢ iprop((stD m c (o.val + 1) -∗ WP c q Q)
      -∗ WP c (if h : p then
          (Prog.lift (.load (Memref.whole cc0_scratch0) (Rect.unit (s := S8x2x2x128x256) off S1x2x2x128x256.size (inb h)).toLoadRect (hl h)) >>= fun _ =>
            Prog.lift (.store (Memref.whole cc0_scratch0) (Rect.unit (s := S8x2x2x128x256) off S1x2x2x128x256.size (inb' h)) w Finset.univ (hx h) (hm h)) >>= fun _ => q)
        else q) Q) := by
  by_cases h : p
  · rw [dif_pos h]
    have ho := hp.1 h
    unfold stD
    rw [show max (c.val + 1) o.val = o.val by omega, show max (c.val + 1) (o.val + 1) = o.val + 1 by omega,
      bigSep_rangeSet_head (Φ := fun i => iprop(∃ f, slotPts (F := F) c i fullShare f)) o.isLt o.isLt,
      bigSep_rangeSet_last (Φ := fun i => slotPts (F := F) c i fullShare (kvAt m c)) (show c.val + 1 < o.val + 1 by omega) (by omega)]
    iintro ⟨⟨Ho, Hb⟩, Hd⟩ Hk
    iapply (slot_store c o hoff q Q) $$ Ho
    iintro Ho
    iapply Hk
    isplitl [Hb]; · iexact Hb
    isplitl [Ho]
    · iapply (Entails.of_eq (slotPts_congr (F := F) c o fullShare (fun j => w (low j)) (kvAt m c) fun j hj => by
        rw [hw]; unfold kvAt; rw [if_neg (by omega)]))
      iexact Ho
    iexact Hd
  · rw [dif_neg h]
    have ho : ¬ c.val < o.val := fun h' => h (hp.2 h')
    have e : stD (F := F) m c (o.val + 1) = stD m c o.val := by
      unfold stD
      rw [show max (c.val + 1) (o.val + 1) = max (c.val + 1) o.val by omega, rangeSet_empty (show o.val + 1 ≤ c.val + 1 by omega),
        rangeSet_empty (show o.val ≤ c.val + 1 by omega)]
    rw [e]
    iintro H Hk
    iapply Hk; iexact H

/-! ## Semaphores at computed offsets -/

theorem sem_send (i : Fin 8) {off : Fin 1 → ℕ} (hoff : off = ![i.val]) (inb : ∀ a, off a + S1.size a ≤ S8.size a) :
    (((cc0_scratch1 : DmaSems sig S8).slice (Rect.unit (s := S8) off S1.size inb)).squeeze S_ squeezes_S1_S_).sem = ⟨6 + i.val, sem_lt false i⟩ := by
  subst hoff; revert i; decide
theorem sem_recv (i : Fin 8) {off : Fin 1 → ℕ} (hoff : off = ![i.val]) (inb : ∀ a, off a + S1.size a ≤ S8.size a) :
    (((cc0_scratch2 : DmaSems sig S8).slice (Rect.unit (s := S8) off S1.size inb)).squeeze S_ squeezes_S1_S_).sem = ⟨14 + i.val, sem_lt true i⟩ := by
  subst hoff; revert i; decide

/-! ## Waits for the earlier devices' slots -/

/-- Before receive wait `o`: the slots of the devices before `o` are in, the waits from `o` on are open. -/
def stG (c : Dev nD) (o : ℕ) : sProp 𝕄 :=
  iprop(owesE c 0
    ∗ (bigSep (rangeSet 8 o c.val) fun i => iprop(cred (tallyAt (recvCell c i) () N) ∗ atPos ER (recvCell c i) 0 ∅ 0))
    ∗ bigSep (rangeSet 8 0 (min o c.val)) fun i => iprop(slotPts c i fullShare (kvT m) ∗ atPos ER (recvCell c i) 1 ∅ 0))

theorem recv_step (c : Dev nD) (o : Fin 8) {p : Prop} [Decidable p] (hp : p ↔ o.val < c.val)
    {s : DmaSem sig} (hs : s = ⟨14 + o.val, sem_lt true o⟩) {sp sp' : Space} {sh sh' : Shape} {e e' : EltTy}
    {src : Memref sig .tc sp' sh' e'} {dst : Memref sig .tc sp sh e} (hN : dst.view.dmaCredit = N)
    {hsrc : p → src.view.WordExact} {hdst : p → dst.view.WordExact}
    {α : Type} (q : Prog (TpuEff nD τ sig (Elt F) Λ₀ .tc) α) (Q : α → sProp 𝕄) :
    iprop(records m K ∗ stG m c o.val) ⊢ iprop((stG m c (o.val + 1) -∗ WP c q Q)
      -∗ WP c (if h : p then (Prog.lift (.waitDma2 s src dst (hsrc h) (hdst h)) >>= fun _ => q) else q) Q) := by
  by_cases h : p
  · rw [dif_pos h]
    have ho := hp.1 h
    subst hs
    unfold stG owesE
    rw [show min o.val c.val = o.val by omega, show min (o.val + 1) c.val = o.val + 1 by omega,
      bigSep_rangeSet_head (Φ := fun i => iprop(cred (tallyAt (recvCell c i) () N) ∗ atPos ER (recvCell c i) 0 ∅ 0)) ho o.isLt,
      bigSep_rangeSet_last (Φ := fun i => iprop(slotPts (F := F) c i fullShare (kvT m) ∗ atPos ER (recvCell c i) 1 ∅ 0)) (show 0 < o.val + 1 by omega) (by omega)]
    simp only [Prog.lift, Prog.bind_op, Prog.bind_ret]
    iintro ⟨#Hr, ⟨%W, HO⟩, ⟨⟨Hc, Hat⟩, Hrest⟩, Hd⟩ Hk
    have hE : (Rd (F := F) m).expect (recvCell c o) 0 = N := by
      have := expect_k m (c, some (true, o)); rw [duty_recv ho] at this; exact this.trans (Nat.one_mul _)
    iapply (Rounds.wp_wait_rest_token 𝒱₀ ER (Rd m) (c : Thread nD τ) none (κ := K (c, some (true, o)))
      (wpE_waitDma2_eq 𝒱₀ (c : Thread nD τ) none Set.univ) (Set.mem_univ _) () (O := 0) (W := W) (R := 0) (m := 0) (T := ∅)
      (by rw [hN, Nat.zero_add]; exact hE.symm)) $$ [Hc HO Hat]
    · isplitr; · iapply (inv_at m K (c, some (true, o))); iexact Hr
      isplitl [Hc]; · rw [hN]; iexact Hc
      isplitl [HO]; · iexact HO
      isplitr; · rw [MayWait_zero]; iempintro
      iexact Hat
    iintro ⟨HO, Hat, -, Hp⟩
    iapply Hk
    isplitl [HO]; · iexists _; iexact HO
    isplitl [Hrest]; · iexact Hrest
    isplitr [Hd]
    · isplitl [Hp]
      · have e : bigSep ((Rd (F := F) m).duties (recvCell c o) 0 \ ∅) (fun d => (Rd m).payload (recvCell c o) 0 d) = slotPts c o fullShare (kvT m) := by
          rw [Finset.sdiff_empty, duties_k m (c, some (true, o)), duty_recv ho, BI.bigSep_singleton, payload_k m (c, some (true, o))]; rfl
        iapply (Entails.of_eq e); iexact Hp
      iexact Hat
    iexact Hd
  · rw [dif_neg h]
    have ho : ¬ o.val < c.val := fun h' => h (hp.2 h')
    have e : stG (F := F) m c (o.val + 1) = stG m c o.val := by
      unfold stG
      rw [show min (o.val + 1) c.val = min o.val c.val by omega, rangeSet_empty (show c.val ≤ o.val + 1 by omega),
        rangeSet_empty (show c.val ≤ o.val by omega)]
    rw [e]
    iintro ⟨-, H⟩ Hk
    iapply Hk; iexact H

/-! ## Sending the own slot -/

/-- What stands ready for the send to device `i`: its slot for `c`, the two tokens, a share of the own slot. -/
def sendKit (c : Dev nD) (i : Fin 8) : sProp 𝕄 :=
  iprop((∃ f, slotPts i c fullShare f) ∗ dutyTok ER (recvCell i c) 0 0 ∗ dutyTok ER (sendCell c i) 0 0 ∗ slotPts c c (qS i) (kvT m))

/-- Before send `t`: the sends to `c + t` and later are open, the earlier ones are on their way. -/
def stE (c : Dev nD) (t : ℕ) : sProp 𝕄 :=
  iprop(owesE c (oRecv c (c.val + t)) ∗ bigSep (rangeSet 8 (c.val + t) 8) (sendKit m c)
    ∗ bigSep (rangeSet 8 (c.val + 1) (c.val + t)) fun i => cred (tallyAt (sendCell c i) () N))

theorem oRecv_head (c : Dev nD) (n : ℕ) (h : n < 8) : oRecv c n = oRecv c (n + 1) + tallyAt (recvCell ⟨n, h⟩ c) () N := by
  unfold oRecv; rw [rangeSet_head h h, Finset.sum_insert (head_not_mem_rangeSet h), add_comm]

/-- Past the last device a run of devices does not grow. -/
theorem rangeSet_top (a b : ℕ) (h : 8 ≤ b) : rangeSet 8 a b = rangeSet 8 a 8 := by
  ext i; have := i.isLt; rw [mem_rangeSet, mem_rangeSet]; omega

theorem landed (c : Dev nD) (fd fs : cc0_scratch0.ty.Contents (Elt F)) (j : S8x2x2x128x256.Idx) (h : (j 0).val = c.val) :
    (slotM c).view.write (Elt F) fd ((slotM c).view.read (Elt F) fs) Finset.univ j = fs j := by
  rw [View.write_read_eq_piecewise, View.setOn_univ, slotM_set]
  exact Finset.piecewise_eq_of_mem _ _ _ ((mem_slotSet c j).2 h)

/-- The slot at a computed offset. -/
abbrev slotAt (off : Fin 5 → ℕ) (inb : ∀ a, off a + S1x2x2x128x256.size a ≤ S8x2x2x128x256.size a) : Memref sig .tc .vmem S2x2x128x256 .i8 :=
  ((Memref.whole cc0_scratch0).slice (Rect.unit (s := S8x2x2x128x256) off S1x2x2x128x256.size inb) (fun _ => rfl)).squeeze S2x2x128x256 squeezes_S1x2x2x128x256_S2x2x128x256

/-- The copy of the own slot to device `i`. -/
theorem send_go (c i : Fin 8) (hci : c.val < i.val) {d : Dev nD} (hd : d = i) {s s' : DmaSem sig}
    (hs : s = ⟨6 + i.val, sem_lt false i⟩) (hs' : s' = ⟨14 + c.val, sem_lt true c⟩) {off : Fin 5 → ℕ} (hoff : off = ![c.val, 0, 0, 0, 0])
    {inb : ∀ a, off a + S1x2x2x128x256.size a ≤ S8x2x2x128x256.size a}
    {hsc : (slotAt off inb).view.ref.isScScratch = false} {hsrc hdst : (slotAt off inb).view.WordExact}
    {hsem : DmaTarget.Typed .vmem (.dma s') (.remote (Dev.tc d : Thread nD τ) (slotAt off inb) (.dma s) hsc)}
    {α : Type} (q : Prog (TpuEff nD τ sig (Elt F) Λ₀ .tc) α) (Q : α → sProp 𝕄) :
    iprop(records m K ∗ owesE c (oRecv c i.val) ∗ sendKit m c i)
      ⊢ iprop(((owesE c (oRecv c (i.val + 1)) ∗ cred (tallyAt (sendCell c i) () N)) -∗ WP c q Q)
        -∗ WP c (Prog.lift (.enqueueDma (slotAt off inb) (.remote (Dev.tc d : Thread nD τ) (slotAt off inb) (.dma s) hsc) (.dma s') hsrc hdst hsem) >>= fun _ => q) Q) := by
  subst hd hs hs' hoff
  unfold owesE sendKit slotPts
  simp only [Prog.lift, Prog.bind_op, Prog.bind_ret]
  iintro ⟨#Hr, ⟨%W, HO⟩, ⟨%fd, Hd⟩, Htr, Hts, Hs⟩ Hk
  iapply (Rounds.wp_send_pointsTo 𝒱₀ ER (Rd m) (c : Thread nD τ) none (c' := (d : Thread nD τ)) (src := slotM c) (dst := slotM c)
    (κ₁ := K (c, some (false, d))) (κ₂ := K (d, some (true, c))) (r₁ := 0) (r₂ := 0) (d₁ := 0) (d₂ := 0) (q := qS d) (fs := kvT m) (fd := fd)
    (by
      show 0 ∈ (Rd m).duties (kcell (c, some (false, d))) 0
      rw [duties_k, duty_send hci]; exact Finset.mem_singleton_self _)
    (by
      show 0 ∈ (Rd m).duties (kcell (d, some (true, c))) 0
      rw [duties_k, duty_recv hci]; exact Finset.mem_singleton_self _)
    () () N rfl (amount_k m (c, some (false, d)) 0 0) (amount_k m (d, some (true, c)) 0 0)
    (O₀ := oRecv c d.val) (oRecv c (d.val + 1)) (oRecv_head c d.val d.isLt) (W := W)
    (by
      rw [slotM_set]
      exact Entails.of_eq (payload_k m (c, some (false, d)) 0 0).symm)
    (by
      rw [slotM_set]
      refine (Entails.of_eq ?_).trans (Entails.of_eq (payload_k m (d, some (true, c)) 0 0).symm)
      exact pointsTo_congr fun j hj => landed c fd (kvT m) j ((mem_slotSet c j).1 hj))) $$ [HO Hd Htr Hts Hs]
  · isplitr; · iapply (inv_at m K (c, some (false, d))); iexact Hr
    isplitr; · iapply (inv_at m K (d, some (true, c))); iexact Hr
    rw [slotM_set]
    isplitl [Hs]; · iexact Hs
    isplitl [Hd]; · iexact Hd
    isplitl [HO]; · iexact HO
    isplitl [Hts]; · iexact Hts
    isplitr; · iapply (reached_at m K (c, some (false, d))); iexact Hr
    isplitl [Htr]; · iexact Htr
    iapply (reached_at m K (d, some (true, c))); iexact Hr
  iintro ⟨Hc, HO⟩
  iapply Hk
  isplitl [HO]; · iexists W; iexact HO
  iexact Hc

theorem send_step (c : Dev nD) (t : ℕ) (ht : 1 ≤ t) {p : Prop} [Decidable p] (hp : p ↔ c.val + t < 8) (dev : p → Dev nD)
    (hdev : ∀ h, (dev h).val = c.val + t) {s₁ s₂ : p → DmaSem sig}
    (hs₁ : ∀ h : p, ∀ i : Fin 8, i.val = c.val + t → s₁ h = ⟨6 + i.val, sem_lt false i⟩) (hs₂ : ∀ h, s₂ h = ⟨14 + c.val, sem_lt true c⟩)
    {off : Fin 5 → ℕ} (hoff : off = ![c.val, 0, 0, 0, 0])
    {inb : p → ∀ a, off a + S1x2x2x128x256.size a ≤ S8x2x2x128x256.size a}
    {hsc : ∀ h, (slotAt off (inb h)).view.ref.isScScratch = false}
    {hsrc : ∀ h, (slotAt off (inb h)).view.WordExact}
    {hdst : ∀ h, (slotAt off (inb h)).view.WordExact}
    {hsem : ∀ h, DmaTarget.Typed .vmem (.dma (s₂ h)) (.remote (Dev.tc (dev h) : Thread nD τ) (slotAt off (inb h)) (.dma (s₁ h)) (hsc h))}
    {α : Type} (q : Prog (TpuEff nD τ sig (Elt F) Λ₀ .tc) α) (Q : α → sProp 𝕄) :
    iprop(records m K ∗ stE m c t) ⊢ iprop((stE m c (t + 1) -∗ WP c q Q)
      -∗ WP c (if h : p then
          (Prog.lift (.enqueueDma (slotAt off (inb h))
            (.remote (Dev.tc (dev h) : Thread nD τ) (slotAt off (inb h)) (.dma (s₁ h)) (hsc h)) (.dma (s₂ h)) (hsrc h) (hdst h) (hsem h)) >>= fun _ => q)
        else q) Q) := by
  by_cases h : p
  · rw [dif_pos h]
    have hlt := hp.1 h
    have hci : c.val < (⟨c.val + t, hlt⟩ : Fin 8).val := by show c.val < c.val + t; omega
    unfold stE
    rw [bigSep_rangeSet_head (Φ := sendKit m c) hlt hlt, ← add_assoc c.val t 1,
      bigSep_rangeSet_last (Φ := fun i => (cred (tallyAt (sendCell c i) () N) : sProp 𝕄)) (show c.val + 1 < c.val + t + 1 by omega) (by omega)]
    iintro ⟨#Hr, HO, ⟨Hkit, Hrest⟩, Hd⟩ Hk
    iapply (send_go m K c ⟨c.val + t, hlt⟩ hci (Fin.ext (hdev h)) (hs₁ h _ rfl) (hs₂ h) hoff q Q) $$ [HO Hkit]
    · isplitr; · iexact Hr
      isplitl [HO]; · iexact HO
      iexact Hkit
    iintro ⟨HO, Hc⟩
    iapply Hk
    isplitl [HO]; · iexact HO
    isplitl [Hrest]; · iexact Hrest
    isplitl [Hc]; · iexact Hc
    iexact Hd
  · rw [dif_neg h]
    have hlt : ¬ c.val + t < 8 := fun h' => h (hp.2 h')
    have e : stE (F := F) m c (t + 1) = stE m c t := by
      unfold stE oRecv
      rw [rangeSet_empty_high (show 8 ≤ c.val + (t + 1) by omega), rangeSet_empty_high (show 8 ≤ c.val + t by omega),
        rangeSet_top (c.val + 1) (c.val + (t + 1)) (by omega), rangeSet_top (c.val + 1) (c.val + t) (by omega)]
    rw [e]
    iintro ⟨-, H⟩ Hk
    iapply Hk; iexact H

/-! ## Waits for the own copies -/

/-- Before copy wait `t`: the copies to the devices before `c + t` are done, the later ones open. -/
def stJ (c : Dev nD) (t : ℕ) : sProp 𝕄 :=
  iprop(owesE c 0
    ∗ (bigSep (rangeSet 8 (c.val + t) 8) fun i => iprop(cred (tallyAt (sendCell c i) () N) ∗ atPos ER (sendCell c i) 0 ∅ 0))
    ∗ bigSep (rangeSet 8 (c.val + 1) (c.val + t)) fun i => iprop(slotPts c c (qS i) (kvT m) ∗ atPos ER (sendCell c i) 1 ∅ 0))

theorem copyWait_step (c : Dev nD) (t : ℕ) (ht : 1 ≤ t) {p : Prop} [Decidable p] (hp : p ↔ c.val + t < 8)
    {s : p → DmaSem sig} (hs : ∀ h : p, ∀ i : Fin 8, i.val = c.val + t → s h = ⟨6 + i.val, sem_lt false i⟩)
    {sp sp' : Space} {sh sh' : Shape} {e e' : EltTy}
    {src : p → Memref sig .tc sp' sh' e'} {dst : p → Memref sig .tc sp sh e} (hN : ∀ h, (dst h).view.dmaCredit = N)
    {hsrc : ∀ h, (src h).view.WordExact} {hdst : ∀ h, (dst h).view.WordExact}
    {α : Type} (q : Prog (TpuEff nD τ sig (Elt F) Λ₀ .tc) α) (Q : α → sProp 𝕄) :
    iprop(records m K ∗ stJ m c t) ⊢ iprop((stJ m c (t + 1) -∗ WP c q Q)
      -∗ WP c (if h : p then (Prog.lift (.waitDma2 (s h) (src h) (dst h) (hsrc h) (hdst h)) >>= fun _ => q) else q) Q) := by
  by_cases h : p
  · rw [dif_pos h]
    have hlt := hp.1 h
    have hs' : s h = ⟨6 + (c.val + t), _⟩ := hs h ⟨c.val + t, hlt⟩ rfl
    rw [hs']
    unfold stJ owesE
    rw [bigSep_rangeSet_head (Φ := fun i => iprop(cred (tallyAt (sendCell c i) () N) ∗ atPos ER (sendCell c i) 0 ∅ 0)) hlt hlt, ← add_assoc c.val t 1,
      bigSep_rangeSet_last (Φ := fun i => iprop(slotPts (F := F) c c (qS i) (kvT m) ∗ atPos ER (sendCell c i) 1 ∅ 0)) (show c.val + 1 < c.val + t + 1 by omega) (by omega)]
    simp only [Prog.lift, Prog.bind_op, Prog.bind_ret]
    have hci : c.val < (⟨c.val + t, hlt⟩ : Fin 8).val := by show c.val < c.val + t; omega
    iintro ⟨#Hr, ⟨%W, HO⟩, ⟨⟨Hc, Hat⟩, Hrest⟩, Hd⟩ Hk
    have hE : (Rd (F := F) m).expect (sendCell c ⟨c.val + t, hlt⟩) 0 = N := by
      have := expect_k m (c, some (false, ⟨c.val + t, hlt⟩)); rw [duty_send hci] at this; exact this.trans (Nat.one_mul _)
    iapply (Rounds.wp_wait_rest_token 𝒱₀ ER (Rd m) (c : Thread nD τ) none (κ := K (c, some (false, ⟨c.val + t, hlt⟩)))
      (wpE_waitDma2_eq 𝒱₀ (c : Thread nD τ) none Set.univ) (Set.mem_univ _) () (O := 0) (W := W) (R := 0) (m := 0) (T := ∅)
      (by rw [hN h, Nat.zero_add]; exact hE.symm)) $$ [Hc HO Hat]
    · isplitr; · iapply (inv_at m K (c, some (false, ⟨c.val + t, hlt⟩))); iexact Hr
      isplitl [Hc]; · rw [hN h]; iexact Hc
      isplitl [HO]; · iexact HO
      isplitr; · rw [MayWait_zero]; iempintro
      iexact Hat
    iintro ⟨HO, Hat, -, Hp⟩
    iapply Hk
    isplitl [HO]; · iexists _; iexact HO
    isplitl [Hrest]; · iexact Hrest
    isplitr [Hd]
    · isplitl [Hp]
      · have e : bigSep ((Rd (F := F) m).duties (sendCell c ⟨c.val + t, hlt⟩) 0 \ ∅) (fun d => (Rd m).payload (sendCell c ⟨c.val + t, hlt⟩) 0 d)
            = slotPts c c (qS ⟨c.val + t, hlt⟩) (kvT m) := by
          rw [Finset.sdiff_empty, duties_k m (c, some (false, ⟨c.val + t, hlt⟩)), duty_send hci, BI.bigSep_singleton,
            payload_k m (c, some (false, ⟨c.val + t, hlt⟩))]; rfl
        iapply (Entails.of_eq e); iexact Hp
      iexact Hat
    iexact Hd
  · rw [dif_neg h]
    have hlt : ¬ c.val + t < 8 := fun h' => h (hp.2 h')
    have e : stJ (F := F) m c (t + 1) = stJ m c t := by
      unfold stJ
      rw [rangeSet_empty_high (show 8 ≤ c.val + (t + 1) by omega), rangeSet_empty_high (show 8 ≤ c.val + t by omega),
        rangeSet_top (c.val + 1) (c.val + (t + 1)) (by omega), rangeSet_top (c.val + 1) (c.val + t) (by omega)]
    rw [e]
    iintro ⟨-, H⟩ Hk
    iapply Hk; iexact H

end Cert.KernelIdeal.Run

end
-- ==== Proof.Parts.lean ====
/-
  The kernel's parts up to the sends, run from one state of the protocol to the next.
-/
module

public import proofs.«01_k».proof.Proof.Moves

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Kx → ℕ)

/-- The device's number as the kernel computes it. -/
abbrev myId (c : Dev nD) : BitVec 32 := Scalar.remsi (Scalar.divsi (Dev.word c) 1#32) 8#32

/-- The staging buffer `b` of device `c`, holding `f`. -/
def stgPts (c : Dev nD) (b : Ref sig .tc) (f : b.ty.Contents (Elt F)) : sProp 𝕄 := ((c : Thread nD τ).loc b) ↦{fullShare} f

theorem stA_done (c : Dev nD) :
    iprop(stA (F := F) c 7 ∗ cred (tallyAt (barCell c) () (7 - c.val)) ∗ atPos ER (barCell c) 0 ∅ 0) ⊢ stB c 0 := by
  unfold stA stB oBar
  rw [rangeSet_empty (show c.val ≤ 7 from Nat.le_of_lt_succ c.isLt), Finset.sum_empty, add_zero]
  iintro ⟨⟨HO, -⟩, Hc, Hat⟩
  isplitl [HO]; · iexact HO
  isplitl [Hc]; · iexact Hc
  iexists ∅
  isplitr
  · ipureintro; exact ⟨Finset.empty_subset _, by rw [Finset.sdiff_empty, card_duty_bar]; omega⟩
  rw [Nat.zero_min]
  isplitl [Hat]; · iexact Hat
  rw [BI.bigSep_empty]; iempintro

theorem dev_step (c : Dev nD) {α : Type} (k : Dev nD → Prog (TpuEff nD τ sig (Elt F) Λ₀ .tc) α) (Q : α → sProp 𝕄) :
    WP c (k c) Q ⊢ WP c (Prog.lift .deviceId >>= k) Q := by
  simp only [Prog.lift, Prog.bind_op, Prog.bind_ret, wp_deviceId]
  exact BI.Entails.refl _

theorem zero4 : (![0, 0, 0, 0] : Fin 4 → ℕ) = fun _ => 0 := by decide

theorem pure_step (c : Dev nD) {α : Type} (a : α) (Q : α → sProp 𝕄) : Q a ⊢ WP c (pure a) Q := by
  show _ ⊢ iprop(|={Set.univ}[frame]=> Q a)
  exact fupd_intro

/-- A load from a buffer that `P` holds, reading `v`. -/
theorem load_step (c : Dev nD) {cs : CoreSpace} {s : Shape} {e : EltTy} (mr : Memref sig .tc cs s e) {q : PosShare TreeShare}
    (f : Buf (Elt F) (mr.view.loc (c : Thread nD τ))) {P : sProp 𝕄} (hP : P = (mr.view.loc (c : Thread nD τ) ↦{q} f)) {r : LoadRect s}
    {hl : mr.view.LoadsAt r} {v : r.shape.Idx → Elt F e} (hv : mr.view.readAt (Elt F) r f = v) {α : Type}
    (k : (r.shape.Idx → Elt F e) → Prog (TpuEff nD τ sig (Elt F) Λ₀ .tc) α) (Q : α → sProp 𝕄) :
    P ⊢ iprop((P -∗ WP c (k v) Q) -∗ WP c (Prog.lift (.load mr r hl) >>= k) Q) := by
  subst hP hv
  simp only [Prog.lift, Prog.bind_op, Prog.bind_ret]
  exact wp_load 𝒱₀ (c : Thread nD τ) none Set.univ (m := mr) (S := Finset.univ) (Finset.subset_univ _)

/-- Part 1: the signals and the first barrier wait. -/
theorem run_part1 (c : Dev nD) (Q : _ → sProp 𝕄) :
    iprop(records m K ∗ stA c 0 ∗ cred (tallyAt (barCell c) () (7 - c.val)) ∗ atPos ER (barCell c) 0 ∅ 0)
      ⊢ iprop((stB c 1 -∗ Q ⟨c, myId c, SemArray.scalar (sig.barrier 0 rfl), Scalar.subi 7#32 (myId c), 1#32⟩)
        -∗ WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Q) := by
  rw [k0_part1_eq_skeleton]; unfold k0_part1_skel
  iintro ⟨#Hr, HA, Hc, Hat⟩ Hk
  iapply (dev_step c)
  iapply (sig_step m K c 0 (by revert c; decide) _ (fun _ => rfl)) $$ [HA]
  · isplitr; · iexact Hr
    iexact HA
  iintro HA
  iapply (sig_step m K c 1 (by revert c; decide) _ (fun _ => rfl)) $$ [HA]
  · isplitr; · iexact Hr
    iexact HA
  iintro HA
  iapply (sig_step m K c 2 (by revert c; decide) _ (fun _ => rfl)) $$ [HA]
  · isplitr; · iexact Hr
    iexact HA
  iintro HA
  iapply (sig_step m K c 3 (by revert c; decide) _ (fun _ => rfl)) $$ [HA]
  · isplitr; · iexact Hr
    iexact HA
  iintro HA
  iapply (sig_step m K c 4 (by revert c; decide) _ (fun _ => rfl)) $$ [HA]
  · isplitr; · iexact Hr
    iexact HA
  iintro HA
  iapply (sig_step m K c 5 (by revert c; decide) _ (fun _ => rfl)) $$ [HA]
  · isplitr; · iexact Hr
    iexact HA
  iintro HA
  iapply (sig_step m K c 6 (by revert c; decide) _ (fun _ => rfl)) $$ [HA]
  · isplitr; · iexact Hr
    iexact HA
  iintro HA
  ihave HB := (stA_done c) $$ [HA Hc Hat]
  · isplitl [HA]; · iexact HA
    isplitl [Hc]; · iexact Hc
    iexact Hat
  iapply (barWait_step m K c 0 (by revert c; decide)) $$ [HB]
  · isplitr; · iexact Hr
    iexact HB
  iintro HB
  iapply (pure_step c)
  iapply Hk; iexact HB

/-- Part 2: the other barrier waits, and the loads of the keys and the values. -/
theorem run_part2 (c : Dev nD) (fk : cc0_stg2_0.ty.Contents (Elt F)) (fv : cc0_stg3_0.ty.Contents (Elt F)) (Q : _ → sProp 𝕄) :
    iprop(records m K ∗ stB c 1 ∗ stgPts c cc0_stg2_0 fk ∗ stgPts c cc0_stg3_0 fv)
      ⊢ iprop((stB c 7 ∗ stgPts c cc0_stg2_0 fk ∗ stgPts c cc0_stg3_0 fv -∗ Q ⟨k0_pay1 fk, k0_pay2 fv, Scalar.ofBits .f32 0xC0900000#32⟩)
        -∗ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (myId c) (SemArray.scalar (sig.barrier 0 rfl)) (Scalar.subi 7#32 (myId c)) 1#32) Q) := by
  rw [k0_part2_eq_skeleton]; unfold k0_part2_skel
  iintro ⟨#Hr, HB, H2, H3⟩ Hk
  iapply (barWait_step m K c 1 (by revert c; decide)) $$ [HB]
  · isplitr; · iexact Hr
    iexact HB
  iintro HB
  iapply (barWait_step m K c 2 (by revert c; decide)) $$ [HB]
  · isplitr; · iexact Hr
    iexact HB
  iintro HB
  iapply (barWait_step m K c 3 (by revert c; decide)) $$ [HB]
  · isplitr; · iexact Hr
    iexact HB
  iintro HB
  iapply (barWait_step m K c 4 (by revert c; decide)) $$ [HB]
  · isplitr; · iexact Hr
    iexact HB
  iintro HB
  iapply (barWait_step m K c 5 (by revert c; decide)) $$ [HB]
  · isplitr; · iexact Hr
    iexact HB
  iintro HB
  iapply (barWait_step m K c 6 (by revert c; decide)) $$ [HB]
  · isplitr; · iexact Hr
    iexact HB
  iintro HB
  iapply (load_step c (Memref.whole cc0_stg2_0) fk (P := stgPts c cc0_stg2_0 fk) rfl (Memref.readAt_unit_zero (Elt F) cc0_stg2_0 zero4 _ fk)) $$ [H2]
  · iexact H2
  iintro H2
  iapply (load_step c (Memref.whole cc0_stg3_0) fv (P := stgPts c cc0_stg3_0 fv) rfl (Memref.readAt_unit_zero (Elt F) cc0_stg3_0 zero4 _ fv)) $$ [H3]
  · iexact H3
  iintro H3
  iapply (pure_step c)
  iapply Hk
  isplitl [HB]; · iexact HB
  isplitl [H2]; · iexact H2
  iexact H3

end Cert.KernelIdeal.Run

end
-- ==== Proof.Parts2.lean ====
/-
  The kernel's parts from its own store to the sends.
-/
module

public import proofs.«01_k».proof.Proof.Parts

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Kx → ℕ)

theorem zero2 : (![0, 0] : Fin 2 → ℕ) = fun _ => 0 := by decide

/-! ## The conditions, devices and offsets that the sends and the copy waits compute -/

theorem go22_iff : ∀ c : Dev nD, k0_cond22 c = 1#1 ↔ c.val + 1 < 8 := by decide
theorem dev8_eq : ∀ c : Dev nD, k0_cond22 c = 1#1 → k0_dev8 c = c.val + 1 := by decide
theorem off2_eq : ∀ c : Dev nD, k0_cond22 c = 1#1 → k0_off2 c = ![c.val + 1] := by decide
theorem off3_eq : ∀ c : Dev nD, k0_off3 c = ![c.val] := by decide
theorem off4_eq : ∀ c : Dev nD, k0_off4 c = ![c.val, 0, 0, 0, 0] := by decide

theorem go23_iff : ∀ c : Dev nD, k0_cond23 c = 1#1 ↔ c.val + 2 < 8 := by decide
theorem dev9_eq : ∀ c : Dev nD, k0_cond23 c = 1#1 → k0_dev9 c = c.val + 2 := by decide
theorem off5_eq : ∀ c : Dev nD, k0_cond23 c = 1#1 → k0_off5 c = ![c.val + 2] := by decide
theorem off6_eq : ∀ c : Dev nD, k0_off6 c = ![c.val] := by decide
theorem off7_eq : ∀ c : Dev nD, k0_off7 c = ![c.val, 0, 0, 0, 0] := by decide

theorem go24_iff : ∀ c : Dev nD, k0_cond24 c = 1#1 ↔ c.val + 3 < 8 := by decide
theorem dev10_eq : ∀ c : Dev nD, k0_cond24 c = 1#1 → k0_dev10 c = c.val + 3 := by decide
theorem off8_eq : ∀ c : Dev nD, k0_cond24 c = 1#1 → k0_off8 c = ![c.val + 3] := by decide
theorem off9_eq : ∀ c : Dev nD, k0_off9 c = ![c.val] := by decide
theorem off10_eq : ∀ c : Dev nD, k0_off10 c = ![c.val, 0, 0, 0, 0] := by decide

theorem go25_iff : ∀ c : Dev nD, k0_cond25 c = 1#1 ↔ c.val + 4 < 8 := by decide
theorem dev11_eq : ∀ c : Dev nD, k0_cond25 c = 1#1 → k0_dev11 c = c.val + 4 := by decide
theorem off11_eq : ∀ c : Dev nD, k0_cond25 c = 1#1 → k0_off11 c = ![c.val + 4] := by decide
theorem off12_eq : ∀ c : Dev nD, k0_off12 c = ![c.val] := by decide
theorem off13_eq : ∀ c : Dev nD, k0_off13 c = ![c.val, 0, 0, 0, 0] := by decide

theorem go26_iff : ∀ c : Dev nD, k0_cond26 c = 1#1 ↔ c.val + 5 < 8 := by decide
theorem dev12_eq : ∀ c : Dev nD, k0_cond26 c = 1#1 → k0_dev12 c = c.val + 5 := by decide
theorem off14_eq : ∀ c : Dev nD, k0_cond26 c = 1#1 → k0_off14 c = ![c.val + 5] := by decide
theorem off15_eq : ∀ c : Dev nD, k0_off15 c = ![c.val] := by decide
theorem off16_eq : ∀ c : Dev nD, k0_off16 c = ![c.val, 0, 0, 0, 0] := by decide

theorem go27_iff : ∀ c : Dev nD, k0_cond27 c = 1#1 ↔ c.val + 6 < 8 := by decide
theorem dev13_eq : ∀ c : Dev nD, k0_cond27 c = 1#1 → k0_dev13 c = c.val + 6 := by decide
theorem off17_eq : ∀ c : Dev nD, k0_cond27 c = 1#1 → k0_off17 c = ![c.val + 6] := by decide
theorem off18_eq : ∀ c : Dev nD, k0_off18 c = ![c.val] := by decide
theorem off19_eq : ∀ c : Dev nD, k0_off19 c = ![c.val, 0, 0, 0, 0] := by decide

theorem go28_iff : ∀ c : Dev nD, k0_cond28 c = 1#1 ↔ c.val + 7 < 8 := by decide
theorem dev14_eq : ∀ c : Dev nD, k0_cond28 c = 1#1 → k0_dev14 c = c.val + 7 := by decide
theorem off20_eq : ∀ c : Dev nD, k0_cond28 c = 1#1 → k0_off20 c = ![c.val + 7] := by decide
theorem off21_eq : ∀ c : Dev nD, k0_off21 c = ![c.val] := by decide
theorem off22_eq : ∀ c : Dev nD, k0_off22 c = ![c.val, 0, 0, 0, 0] := by decide

theorem back36_iff : ∀ c : Dev nD, k0_cond36 c = 1#1 ↔ c.val + 1 < 8 := by decide
theorem off23_eq : ∀ c : Dev nD, k0_cond36 c = 1#1 → k0_off23 c = ![c.val + 1] := by decide

theorem back37_iff : ∀ c : Dev nD, k0_cond37 c = 1#1 ↔ c.val + 2 < 8 := by decide
theorem off25_eq : ∀ c : Dev nD, k0_cond37 c = 1#1 → k0_off25 c = ![c.val + 2] := by decide

theorem back38_iff : ∀ c : Dev nD, k0_cond38 c = 1#1 ↔ c.val + 3 < 8 := by decide
theorem off27_eq : ∀ c : Dev nD, k0_cond38 c = 1#1 → k0_off27 c = ![c.val + 3] := by decide

theorem back39_iff : ∀ c : Dev nD, k0_cond39 c = 1#1 ↔ c.val + 4 < 8 := by decide
theorem off29_eq : ∀ c : Dev nD, k0_cond39 c = 1#1 → k0_off29 c = ![c.val + 4] := by decide

theorem back40_iff : ∀ c : Dev nD, k0_cond40 c = 1#1 ↔ c.val + 5 < 8 := by decide
theorem off31_eq : ∀ c : Dev nD, k0_cond40 c = 1#1 → k0_off31 c = ![c.val + 5] := by decide

theorem back41_iff : ∀ c : Dev nD, k0_cond41 c = 1#1 ↔ c.val + 6 < 8 := by decide
theorem off33_eq : ∀ c : Dev nD, k0_cond41 c = 1#1 → k0_off33 c = ![c.val + 6] := by decide

theorem back42_iff : ∀ c : Dev nD, k0_cond42 c = 1#1 ↔ c.val + 7 < 8 := by decide
theorem off35_eq : ∀ c : Dev nD, k0_cond42 c = 1#1 → k0_off35 c = ![c.val + 7] := by decide

/-- Part 3: the store of the device's own keys and values, and the zeroing of slots 1 to 3. -/
theorem run_part3 (c : Dev nD) (Q : _ → sProp 𝕄) :
    iprop((∃ f, slotPts (F := F) c c fullShare f) ∗ stD m c 1)
      ⊢ iprop((slotPts c c fullShare (kvT m) ∗ stD m c 4 -∗ Q ⟨k0_pay4, Scalar.cmpi .slt (myId c) 4#32⟩)
        -∗ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (myId c) (k0_pay1 (inK m c)) (k0_pay2 (inV m c)) (Scalar.ofBits .f32 0xC0900000#32)) Q) := by
  rw [k0_part3_eq_skeleton]; unfold k0_part3_skel
  iintro ⟨Hs, HD⟩ Hk
  iapply (slot_store c c ((by decide : ∀ c : Dev nD, k0_off1 c = ![c.val, 0, 0, 0, 0]) c)) $$ [Hs]
  · iexact Hs
  iintro Hs
  iapply (zero_step m c 1 (by revert c; decide) rfl (fun _ => rfl)) $$ [HD]
  · iexact HD
  iintro HD
  iapply (zero_step m c 2 (by revert c; decide) rfl (fun _ => rfl)) $$ [HD]
  · iexact HD
  iintro HD
  iapply (zero_step m c 3 (by revert c; decide) rfl (fun _ => rfl)) $$ [HD]
  · iexact HD
  iintro HD
  iapply (pure_step c)
  iapply Hk
  isplitl [Hs]
  · rw [← own_slot m c]; iexact Hs
  iexact HD

set_option maxHeartbeats 1000000 in
/-- Part 4: the zeroing of slots 4 to 7, and the first four sends. -/
theorem run_part4 (c : Dev nD) (Q : _ → sProp 𝕄) :
    iprop(records m K ∗ stD m c 4 ∗ stE m c 1)
      ⊢ iprop((stD m c 8 ∗ stE m c 5 -∗ Q ⟨Scalar.addi (myId c) 5#32, Scalar.extui (Scalar.cmpi .slt (Scalar.addi (myId c) 5#32) 8#32), 0#32⟩)
        -∗ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (myId c) k0_pay4 (Scalar.cmpi .slt (myId c) 4#32)) Q) := by
  rw [k0_part4_eq_skeleton]; unfold k0_part4_skel
  iintro ⟨#Hr, HD, HE⟩ Hk
  iapply (zero_step m c 4 (by revert c; decide) rfl (fun _ => rfl)) $$ [HD]
  · iexact HD
  iintro HD
  iapply (zero_step m c 5 (by revert c; decide) rfl (fun _ => rfl)) $$ [HD]
  · iexact HD
  iintro HD
  iapply (zero_step m c 6 (by revert c; decide) rfl (fun _ => rfl)) $$ [HD]
  · iexact HD
  iintro HD
  iapply (zero_step m c 7 (by revert c; decide) rfl (fun _ => rfl)) $$ [HD]
  · iexact HD
  iintro HD
  iapply (send_step m K c 1 (by decide) (go22_iff c) (fun h => ⟨k0_dev8 c, k0_dev8_lt c h⟩) (dev8_eq c)
    (fun h i hi => sem_send i ((off2_eq c h).trans (by rw [hi])) _) (fun h => sem_recv c (off3_eq c) _) (off4_eq c)) $$ [HE]
  · isplitr; · iexact Hr
    iexact HE
  iintro HE
  iapply (send_step m K c 2 (by decide) (go23_iff c) (fun h => ⟨k0_dev9 c, k0_dev9_lt c h⟩) (dev9_eq c)
    (fun h i hi => sem_send i ((off5_eq c h).trans (by rw [hi])) _) (fun h => sem_recv c (off6_eq c) _) (off7_eq c)) $$ [HE]
  · isplitr; · iexact Hr
    iexact HE
  iintro HE
  iapply (send_step m K c 3 (by decide) (go24_iff c) (fun h => ⟨k0_dev10 c, k0_dev10_lt c h⟩) (dev10_eq c)
    (fun h i hi => sem_send i ((off8_eq c h).trans (by rw [hi])) _) (fun h => sem_recv c (off9_eq c) _) (off10_eq c)) $$ [HE]
  · isplitr; · iexact Hr
    iexact HE
  iintro HE
  iapply (send_step m K c 4 (by decide) (go25_iff c) (fun h => ⟨k0_dev11 c, k0_dev11_lt c h⟩) (dev11_eq c)
    (fun h i hi => sem_send i ((off11_eq c h).trans (by rw [hi])) _) (fun h => sem_recv c (off12_eq c) _) (off13_eq c)) $$ [HE]
  · isplitr; · iexact Hr
    iexact HE
  iintro HE
  iapply (pure_step c)
  iapply Hk
  isplitl [HD]; · iexact HD
  iexact HE

end Cert.KernelIdeal.Run

end
-- ==== Proof.Whole.lean ====
/-
  The buffer of all keys and values, read whole once every slot is in.
-/
module

public import proofs.«01_k».proof.Proof.Moves

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem zero5 : (![0, 0, 0, 0, 0] : Fin 5 → ℕ) = fun _ => 0 := by decide

/-- The slots, as sets of elements of device `c`'s buffer. -/
def slotsOf (c : Dev nD) (o : Fin 8) : Finset (Idx (kvLoc c)) := slotSet o

theorem slots_apart (c : Dev nD) : ∀ b b' : Fin 8, b ≠ b' → Disjoint (slotsOf c b) (slotsOf c b') := fun b b' h =>
  Finset.disjoint_left.2 fun j hj hj' => h (Fin.ext (((mem_slotSet b j).1 hj).symm.trans ((mem_slotSet b' j).1 hj')))

theorem slots_cover (c : Dev nD) : (Finset.univ : Finset (Fin 8)).biUnion (slotsOf c) = Finset.univ := by
  ext j
  simp only [Finset.mem_biUnion, Finset.mem_univ, true_and, iff_true]
  exact ⟨(show S8x2x2x128x256.Idx from j) 0, (mem_slotSet _ j).2 rfl⟩

/-- A share of the whole buffer is that share of every slot. -/
theorem kv_slots (c : Dev nD) (q : PosShare TreeShare) (f : Buf (Elt F) (kvLoc c)) :
    (kvLoc c ↦{q} f : sProp 𝕄) = bigSep Finset.univ fun o => slotPts c o q f :=
  pointsTo_blocks (ℓ := kvLoc c) (slotsOf c) (slots_apart c) (slots_cover c) f

/-- Half of the buffer, holding what device `c` attends to. -/
def kvRead (c : Dev nD) : sProp 𝕄 := kvLoc c ↦{fullShare.left} kvAt m c

theorem slot_halves (c : Dev nD) (o : Fin 8) (f : Buf (Elt F) (kvLoc c)) :
    slotPts (F := F) c o fullShare f = iprop(slotPts c o fullShare.left f ∗ slotPts c o fullShare.right f) :=
  have h := pointsTo_share (Ix := Unit) (Name := ℕ) (U := UU) (Lvl := ℕ) (Val := Elt F) (ℓ := kvLoc c) (I := slotsOf c o) (f := f) (PosShare.mem_left_op_right fullShare)
  Entails.antisymm h.1 h.2

theorem kv_own (c : Dev nD) (o : Fin 8) (h : o.val ≤ c.val) (q) : slotPts (F := F) c o q (kvT m) = slotPts c o q (kvAt m c) :=
  slotPts_congr c o q _ _ fun j hj => by unfold kvAt; rw [if_pos (by omega)]

theorem kv_three (c : Dev nD) (Φ : Fin 8 → sProp 𝕄) :
    bigSep Finset.univ Φ = iprop(bigSep (rangeSet 8 0 c.val) Φ ∗ Φ c ∗ bigSep (rangeSet 8 (c.val + 1) 8) Φ) := by
  rw [← rangeSet_univ, bigSep_rangeSet_split (Nat.zero_le c.val) (Nat.le_of_lt c.isLt), bigSep_rangeSet_head (lo := c.val) c.isLt c.isLt]

/-- With every slot in, half of the whole buffer can be read and handed back. -/
theorem whole_read (c : Dev nD) : iprop(stG m c 7 ∗ stD m c 8 ∗ slotPts (F := F) c c fullShare.left (kvT m))
    ⊢ iprop(kvRead m c ∗ (kvRead m c -∗ stG m c 7 ∗ stD m c 8 ∗ slotPts (F := F) c c fullShare.left (kvT m))) := by
  have hc : c.val ≤ 7 := Nat.le_of_lt_succ c.isLt
  have e1 : (bigSep (rangeSet 8 0 c.val) fun i => iprop(slotPts c i fullShare (kvT m) ∗ atPos ER (recvCell c i) 1 ∅ 0) : sProp 𝕄)
      = iprop((bigSep (rangeSet 8 0 c.val) fun i => slotPts c i fullShare.left (kvAt m c))
        ∗ (bigSep (rangeSet 8 0 c.val) fun i => slotPts c i fullShare.right (kvAt m c))
        ∗ bigSep (rangeSet 8 0 c.val) fun i => atPos ER (recvCell c i) 1 ∅ 0) := by
    rw [← bigSep_sep', ← bigSep_sep']
    refine BI.bigSep_congr fun i hi => ?_
    rw [kv_own m c i (by have := (mem_rangeSet ..).1 hi; omega), slot_halves]
    exact Entails.antisymm BI.sep_assoc BI.sep_assoc'
  have e2 : (bigSep (rangeSet 8 (c.val + 1) 8) fun i => slotPts c i fullShare (kvAt m c) : sProp 𝕄)
      = iprop((bigSep (rangeSet 8 (c.val + 1) 8) fun i => slotPts c i fullShare.left (kvAt m c))
        ∗ bigSep (rangeSet 8 (c.val + 1) 8) fun i => slotPts c i fullShare.right (kvAt m c)) := by
    rw [← bigSep_sep']
    exact BI.bigSep_congr fun i _ => slot_halves c i _
  unfold kvRead stG stD
  rw [kv_slots, kv_three c, Nat.min_eq_right hc, e1, e2, kv_own m c c le_rfl]
  iintro ⟨⟨HO, Hg, Ha, Har, Hat⟩, ⟨Hd, Hz, Hzr⟩, Hs⟩
  isplitl [Ha Hz Hs]
  · isplitl [Ha]; · iexact Ha
    isplitl [Hs]; · iexact Hs
    iexact Hz
  iintro ⟨Ha, Hs, Hz⟩
  isplitl [HO Hg Ha Har Hat]
  · isplitl [HO]; · iexact HO
    isplitl [Hg]; · iexact Hg
    isplitl [Ha]; · iexact Ha
    isplitl [Har]; · iexact Har
    iexact Hat
  isplitl [Hd Hz Hzr]
  · isplitl [Hd]; · iexact Hd
    isplitl [Hz]; · iexact Hz
    iexact Hzr
  iexact Hs

end Cert.KernelIdeal.Run

end
-- ==== Proof.Parts3.lean ====
/-
  The kernel's parts from the last sends to the loads of all keys and values.
-/
module

public import proofs.«01_k».proof.Proof.Parts2
public import proofs.«01_k».proof.Proof.Whole

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Kx → ℕ)

/-- Element `j` of block `b`, in the whole. -/
def row (b : Fin 2) (j : S1x128x512.Idx) : S2x128x512.Idx
  | 0 => b
  | 1 => j 1
  | 2 => j 2

/-- Block `b` of the staged `x`, as the kernel loads it. -/
abbrev xRow (f : S2x128x512.Idx → Elt F .bf16) (b : Fin 2) : S1x128x512.Idx → Elt F .bf16 := fun j => f (row b j)

theorem xRow0 (f : S2x128x512.Idx → Elt F .bf16) :
    (Memref.whole cc0_stg0_0).view.readAt (Elt F) (Rect.unit (s := S2x128x512) ![0, 0, 0] S1x128x512.size inb_S2x128x512_S1x128x512_0_0_0).toLoadRect f
      = xRow f 0 := by
  funext j
  show f _ = f _
  congr 1
  funext a; apply Fin.ext
  have h0 : (j 0).val < 1 := (j 0).isLt
  fin_cases a
  · show 0 + 1 * (j 0).val = 0; omega
  · show 0 + 1 * (j 1).val = (j 1).val; omega
  · show 0 + 1 * (j 2).val = (j 2).val; omega

theorem xRow1 (f : S2x128x512.Idx → Elt F .bf16) :
    (Memref.whole cc0_stg0_0).view.readAt (Elt F) (Rect.unit (s := S2x128x512) ![1, 0, 0] S1x128x512.size inb_S2x128x512_S1x128x512_1_0_0).toLoadRect f
      = xRow f 1 := by
  funext j
  show f _ = f _
  congr 1
  funext a; apply Fin.ext
  have h0 : (j 0).val < 1 := (j 0).isLt
  fin_cases a
  · show 1 + 1 * (j 0).val = 1; omega
  · show 0 + 1 * (j 1).val = (j 1).val; omega
  · show 0 + 1 * (j 2).val = (j 2).val; omega

set_option maxHeartbeats 1000000 in
/-- Part 5: the last three sends, and the loads of the weights and of `x`. -/
theorem run_part5 (c : Dev nD) (fx : S2x128x512.Idx → Elt F .bf16) (fq : S512x256.Idx → Elt F .bf16) (fo : S256x512.Idx → Elt F .bf16) (Q : _ → sProp 𝕄) :
    iprop(records m K ∗ stE m c 5 ∗ stgPts c cc0_stg1_0 fq ∗ stgPts c cc0_stg4_0 fo ∗ stgPts c cc0_stg0_0 fx)
      ⊢ iprop((stE m c 8 ∗ stgPts c cc0_stg1_0 fq ∗ stgPts c cc0_stg4_0 fo ∗ stgPts c cc0_stg0_0 fx
          -∗ Q ⟨k0_pay13 fo, k0_pay14 fq (xRow fx 0), k0_pay15 fq (xRow fx 1), Scalar.muli (myId c) 2#32,
            iota .tc S128x1024 32 [0] iota_S128x1024_d0_w32, 64#32, k0_pay16, k0_pay17, Scalar.extui (Scalar.cmpi .sgt 64#32 0#32), Scalar.cmpi .slt 64#32 0#32⟩)
        -∗ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (myId c) (Scalar.addi (myId c) 5#32) (Scalar.extui (Scalar.cmpi .slt (Scalar.addi (myId c) 5#32) 8#32)) 0#32) Q) := by
  rw [k0_part5_eq_skeleton]; unfold k0_part5_skel
  iintro ⟨#Hr, HE, H1, H4, H0⟩ Hk
  iapply (send_step m K c 5 (by decide) (go26_iff c) (fun h => ⟨k0_dev12 c, k0_dev12_lt c h⟩) (dev12_eq c)
    (fun h i hi => sem_send i ((off14_eq c h).trans (by rw [hi])) _) (fun h => sem_recv c (off15_eq c) _) (off16_eq c)) $$ [HE]
  · isplitr; · iexact Hr
    iexact HE
  iintro HE
  iapply (send_step m K c 6 (by decide) (go27_iff c) (fun h => ⟨k0_dev13 c, k0_dev13_lt c h⟩) (dev13_eq c)
    (fun h i hi => sem_send i ((off17_eq c h).trans (by rw [hi])) _) (fun h => sem_recv c (off18_eq c) _) (off19_eq c)) $$ [HE]
  · isplitr; · iexact Hr
    iexact HE
  iintro HE
  iapply (send_step m K c 7 (by decide) (go28_iff c) (fun h => ⟨k0_dev14 c, k0_dev14_lt c h⟩) (dev14_eq c)
    (fun h i hi => sem_send i ((off20_eq c h).trans (by rw [hi])) _) (fun h => sem_recv c (off21_eq c) _) (off22_eq c)) $$ [HE]
  · isplitr; · iexact Hr
    iexact HE
  iintro HE
  iapply (load_step c (Memref.whole cc0_stg1_0) fq (P := stgPts c cc0_stg1_0 fq) rfl (Memref.readAt_unit_zero (Elt F) cc0_stg1_0 zero2 _ fq)) $$ [H1]
  · iexact H1
  iintro H1
  iapply (load_step c (Memref.whole cc0_stg4_0) fo (P := stgPts c cc0_stg4_0 fo) rfl (Memref.readAt_unit_zero (Elt F) cc0_stg4_0 zero2 _ fo)) $$ [H4]
  · iexact H4
  iintro H4
  iapply (load_step c (Memref.whole cc0_stg0_0) fx (P := stgPts c cc0_stg0_0 fx) rfl (xRow0 fx)) $$ [H0]
  · iexact H0
  iintro H0
  iapply (load_step c (Memref.whole cc0_stg0_0) fx (P := stgPts c cc0_stg0_0 fx) rfl (xRow1 fx)) $$ [H0]
  · iexact H0
  iintro H0
  iapply (pure_step c)
  iapply Hk
  isplitl [HE]; · iexact HE
  isplitl [H1]; · iexact H1
  isplitl [H4]; · iexact H4
  iexact H0

/-- Part 6: the first receive wait. -/
theorem run_part6 (c : Dev nD) (w147 : BitVec 32) (w148 : IVec S128x1024 32) (c64 : BitVec 32) (w150 w157 : IVec S128x1024 32)
    (w159 : BitVec 32) (w160 : BitVec 1) (Q : _ → sProp 𝕄) :
    iprop(records m K ∗ stG m c 0)
      ⊢ iprop((stG m c 1 -∗ Q ⟨k0_pay18 (F := F) w147 w148 c64 w150 w157 w159 w160, Scalar.extui (Scalar.cmpi .sgt (myId c) 1#32)⟩)
        -∗ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (myId c) w147 w148 c64 w150 w157 w159 w160) Q) := by
  rw [k0_part6_eq_skeleton]; unfold k0_part6_skel
  iintro ⟨#Hr, HG⟩ Hk
  iapply (recv_step m K c 0 (by revert c; decide) (sem_recv 0 rfl _) (by rfl)) $$ [HG]
  · isplitr; · iexact Hr
    iexact HG
  iintro HG
  iapply (pure_step c)
  iapply Hk; iexact HG

/-- Part 7: the other receive waits, and the load of every device's keys and values. -/
theorem run_part7 (c : Dev nD) (v143 : FVec F S128x256 .f32) (v202 : FVec F S128x1024 .f32) (Q : _ → sProp 𝕄) :
    iprop(records m K ∗ stG m c 1 ∗ stD m c 8 ∗ slotPts c c fullShare.left (kvT m))
      ⊢ iprop((stG m c 7 ∗ stD m c 8 ∗ slotPts c c fullShare.left (kvT m)
          -∗ Q ⟨k0_pay19 (kvAt m c), k0_pay21 v143 v202 (kvAt m c), k0_pay22 (kvAt m c), k0_pay23 v143 v202 (kvAt m c), constant S128x64 .f32 0x00000000#32⟩)
        -∗ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 (myId c) v143 v202 (Scalar.extui (Scalar.cmpi .sgt (myId c) 1#32))) Q) := by
  rw [k0_part7_eq_skeleton]; unfold k0_part7_skel
  iintro ⟨#Hr, HG, HD, Hs⟩ Hk
  iapply (recv_step m K c 1 (by revert c; decide) (sem_recv 1 rfl _) (by rfl)) $$ [HG]
  · isplitr; · iexact Hr
    iexact HG
  iintro HG
  iapply (recv_step m K c 2 (by revert c; decide) (sem_recv 2 rfl _) (by rfl)) $$ [HG]
  · isplitr; · iexact Hr
    iexact HG
  iintro HG
  iapply (recv_step m K c 3 (by revert c; decide) (sem_recv 3 rfl _) (by rfl)) $$ [HG]
  · isplitr; · iexact Hr
    iexact HG
  iintro HG
  iapply (recv_step m K c 4 (by revert c; decide) (sem_recv 4 rfl _) (by rfl)) $$ [HG]
  · isplitr; · iexact Hr
    iexact HG
  iintro HG
  iapply (recv_step m K c 5 (by revert c; decide) (sem_recv 5 rfl _) (by rfl)) $$ [HG]
  · isplitr; · iexact Hr
    iexact HG
  iintro HG
  iapply (recv_step m K c 6 (by revert c; decide) (sem_recv 6 rfl _) (by rfl)) $$ [HG]
  · isplitr; · iexact Hr
    iexact HG
  iintro HG
  ihave HP := (whole_read m c) $$ [HG HD Hs]
  · isplitl [HG]; · iexact HG
    isplitl [HD]; · iexact HD
    iexact Hs
  icases HP with ⟨HP, Hback⟩
  iapply (load_step c (Memref.whole cc0_scratch0) (kvAt m c) (P := kvRead m c) rfl (Memref.readAt_unit_zero (Elt F) cc0_scratch0 zero5 _ (kvAt m c))) $$ [HP]
  · iexact HP
  iintro HP
  iapply (pure_step c)
  iapply Hk
  iapply Hback; iexact HP

end Cert.KernelIdeal.Run

end
-- ==== Proof.Parts4.lean ====
/-
  The kernel's parts from the attention to the copy waits.
-/
module

public import proofs.«01_k».proof.Proof.Parts3

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Kx → ℕ)

/-! ## What the attention computes -/

/-- The mask of device `c`: which of the 1024 positions each of its queries sees. -/
def maskOf (c : Dev nD) : FVec F S128x1024 .f32 :=
  k0_pay18 (F := F) (Scalar.muli (myId c) 2#32) (iota .tc S128x1024 32 [0] iota_S128x1024_d0_w32) 64#32 k0_pay16 k0_pay17
    (Scalar.extui (Scalar.cmpi .sgt 64#32 0#32)) (Scalar.cmpi .slt 64#32 0#32)

/-- The first batch's block of the result. -/
def outBlk0 (mk : FVec F S128x1024 .f32) (wo : FVec F S256x512 .bf16) (q : FVec F S128x256 .f32) (g : IVec S8x2x2x128x256 8) :
    FVec F S1x128x512 .f32 :=
  k0_pay34 wo (k0_pay21 q mk g) (k0_pay24 (k0_pay22 g) (k0_pay23 q mk g) (constant S128x64 .f32 0x00000000#32))
    (k0_pay26 q mk (k0_pay19 g)) (k0_pay27 q mk (k0_pay19 g)) (k0_pay29 q mk (k0_pay19 g)) (k0_pay30 q mk (k0_pay19 g))
    (k0_pay31 q mk (k0_pay19 g)) (k0_pay32 q mk (k0_pay19 g)) (k0_pay33 (k0_pay19 g))

/-- The second batch's block of the result. -/
def outBlk1 (mk : FVec F S128x1024 .f32) (wo : FVec F S256x512 .bf16) (q : FVec F S128x256 .f32) (g : IVec S8x2x2x128x256 8) :
    FVec F S1x128x512 .f32 :=
  k0_pay40 wo (k0_pay39 q mk (k0_pay19 g) (k0_pay36 q mk (k0_pay19 g)) (k0_pay37 q mk (k0_pay19 g)) (k0_pay38 q mk (k0_pay19 g)))
    (Named.named κ "inv_scale" 0x3D112245#32)

/-- An element of the result, seen inside its block. -/
def inBlk (j : S2x128x512.Idx) : S1x128x512.Idx
  | 0 => (⟨0, by decide⟩ : Fin 1)
  | 1 => j 1
  | 2 => j 2

/-- `f` with block `b` replaced by `w`. -/
def setRow (b : Fin 2) (f : S2x128x512.Idx → Elt F .f32) (w : S1x128x512.Idx → Elt F .f32) : S2x128x512.Idx → Elt F .f32 :=
  fun j => if (j 0).val = b.val then w (inBlk j) else f j

/-- Both blocks together. -/
def outF (w0 w1 : S1x128x512.Idx → Elt F .f32) : S2x128x512.Idx → Elt F .f32 :=
  fun j => if (j 0).val = 0 then w0 (inBlk j) else w1 (inBlk j)

theorem setRow_both (f w0 w1) : setRow (F := F) 1 (setRow 0 f w0) w1 = outF w0 w1 := by
  funext j
  have h0 : (j 0).val < 2 := (j 0).isLt
  unfold setRow outF
  by_cases h : (j 0).val = 0
  · rw [if_neg (by rw [h]; decide), if_pos (show (j 0).val = (0 : Fin 2).val from h), if_pos h]
  · rw [if_pos (show (j 0).val = (1 : Fin 2).val from (show (j 0).val = 1 by omega)), if_neg h]

/-- The rectangle of block `b` of the result. -/
abbrev rowRect (b : Fin 2) (inb : ∀ a, (![b.val, 0, 0] : Fin 3 → ℕ) a + S1x128x512.size a ≤ S2x128x512.size a) : Rect S2x128x512 :=
  Rect.unit (s := S2x128x512) ![b.val, 0, 0] S1x128x512.size inb

theorem store_row (b : Fin 2) (inb) (f : S2x128x512.Idx → Elt F .f32) (w : S1x128x512.Idx → Elt F .f32) :
    ((Memref.whole cc0_stg5_0).access (rowRect b inb)).write (Elt F) f w Finset.univ = setRow b f w := by
  have hb := b.isLt
  funext j
  unfold setRow
  by_cases h : (j 0).val = b.val
  · rw [if_pos h]
    have e : ((Memref.whole cc0_stg5_0).access (rowRect b inb)).emb (inBlk j) = j := by
      funext a; apply Fin.ext
      show ((rowRect b inb).emb (inBlk j) a).val = (j a).val
      rw [Rect.emb_apply]
      fin_cases a
      · show b.val + 1 * 0 = (j 0).val; omega
      · show 0 + 1 * (j 1).val = (j 1).val; omega
      · show 0 + 1 * (j 2).val = (j 2).val; omega
    have := View.write_emb_of_mem (v := (Memref.whole cc0_stg5_0).access (rowRect b inb)) (Val := Elt F) f w (Finset.mem_univ (inBlk j))
    rw [e] at this
    exact this
  · rw [if_neg h]
    refine View.write_of_not_mem _ _ _ fun hj => h ?_
    obtain ⟨x, -, rfl⟩ := Finset.mem_map.mp hj
    have h0 : (x 0).val < 1 := (x 0).isLt
    show b.val + 1 * (x 0).val = b.val
    omega

/-- A load of block `b` of the result, and a store of `w` over it. -/
theorem row_store (c : Dev nD) (b : Fin 2) {inb inb'} {f : S2x128x512.Idx → Elt F .f32} {w : S1x128x512.Idx → Elt F .f32}
    {hl : (Memref.whole cc0_stg5_0 : Memref sig .tc .vmem S2x128x512 .f32).view.LoadsAt (rowRect b inb).toLoadRect}
    {hx : ((Memref.whole cc0_stg5_0 : Memref sig .tc .vmem S2x128x512 .f32).access (rowRect b inb')).Stores Finset.univ}
    {hm} {α : Type} (q : Prog (TpuEff nD τ sig (Elt F) Λ₀ .tc) α) (Q : α → sProp 𝕄) :
    stgPts c cc0_stg5_0 f ⊢ iprop((stgPts c cc0_stg5_0 (setRow b f w) -∗ WP c q Q)
      -∗ WP c (Prog.lift (.load (Memref.whole cc0_stg5_0) (rowRect b inb).toLoadRect hl) >>= fun _ =>
          Prog.lift (.store (Memref.whole cc0_stg5_0) (rowRect b inb') w Finset.univ hx hm) >>= fun _ => q) Q) := by
  iintro H Hk
  iapply (load_step c (Memref.whole cc0_stg5_0) f (P := stgPts c cc0_stg5_0 f) rfl rfl) $$ [H]
  · iexact H
  iintro H
  unfold stgPts
  simp only [Prog.lift, Prog.bind_op, Prog.bind_ret]
  iapply (wp_store 𝒱₀ (c : Thread nD τ) none Set.univ (m := Memref.whole cc0_stg5_0) (r := rowRect b inb') (S := Finset.univ)
    (Finset.subset_univ _)) $$ H
  iintro H
  iapply Hk
  have e := store_row (F := F) b inb' f w
  rw [e]
  iexact H

/-! ## The parts -/

/-- Part 8 only computes. -/
theorem run_part8 (c : Dev nD) (v143 : FVec F S128x256 .f32) (v202 : FVec F S128x1024 .f32) (v225 : FVec F S8x2x2x128x256 .bf16)
    (v240 : FVec F S1024x64 .bf16) (v241 : FVec F S128x1024 .bf16) (z : FVec F S128x64 .f32) (Q : _ → sProp 𝕄) :
    Q ⟨k0_pay24 v240 v241 z, k0_pay26 v143 v202 v225, k0_pay27 v143 v202 v225, k0_pay29 v143 v202 v225, k0_pay30 v143 v202 v225, k0_pay31 v143 v202 v225, k0_pay32 v143 v202 v225, k0_pay33 v225⟩
      ⊢ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v143 v202 v225 v240 v241 z) Q := by
  rw [k0_part8_eq_skeleton]; unfold k0_part8_skel
  iintro H
  iapply (pure_step c); iexact H

/-- Part 9: the store of the first block of the result. -/
theorem run_part9 (c : Dev nD) (f : S2x128x512.Idx → Elt F .f32) (v140 : FVec F S256x512 .bf16) (v146 : FVec F S128x256 .f32) (v202 : FVec F S128x1024 .f32) (v225 : FVec F S8x2x2x128x256 .bf16) (v237 : FVec F S128x1 .f32) (v242 : FVec F S128x64 .f32) (v254 : FVec F S128x1 .f32) (v259 : FVec F S128x64 .f32) (v271 : FVec F S128x1 .f32) (v276 : FVec F S128x64 .f32) (v286 : FVec F S128x1024 .f32) (v288 : FVec F S128x1 .f32) (v290 : FVec F S8x128x64 .bf16) (Q : _ → sProp 𝕄) :
    stgPts c cc0_stg5_0 f
      ⊢ iprop((stgPts c cc0_stg5_0 (setRow 0 f (k0_pay34 v140 v237 v242 v254 v259 v271 v276 v286 v288 v290))
          -∗ Q ⟨k0_pay36 v146 v202 v225, k0_pay37 v146 v202 v225, k0_pay38 v146 v202 v225⟩)
        -∗ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v140 v146 v202 v225 v237 v242 v254 v259 v271 v276 v286 v288 v290) Q) := by
  rw [k0_part9_eq_skeleton]; unfold k0_part9_skel
  iintro H Hk
  iapply (row_store c 0) $$ [H]
  · iexact H
  iintro H
  iapply (pure_step c)
  iapply Hk; iexact H

/-- Part 10 only computes. -/
theorem run_part10 (c : Dev nD) (v146 : FVec F S128x256 .f32) (v202 : FVec F S128x1024 .f32) (v225 : FVec F S8x2x2x128x256 .bf16)
    (v321 : FVec F S128x1 .f32) (v326 : FVec F S128x64 .f32) (v336 : FVec F S128x1024 .f32) (Q : _ → sProp 𝕄) :
    Q ⟨k0_pay39 v146 v202 v225 v321 v326 v336, Named.named κ "inv_scale" 0x3D112245#32⟩
      ⊢ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v146 v202 v225 v321 v326 v336) Q := by
  rw [k0_part10_eq_skeleton]; unfold k0_part10_skel
  iintro H
  iapply (pure_step c); iexact H

set_option maxHeartbeats 1000000 in
/-- Part 11: the store of the second block of the result, and the waits for six of the device's own copies. -/
theorem run_part11 (c : Dev nD) (f : S2x128x512.Idx → Elt F .f32) (v140 : FVec F S256x512 .bf16) (v386 : FVec F S128x256 .f32) (z : F .f32) (Q : _ → sProp 𝕄) :
    iprop(records m K ∗ stJ m c 1 ∗ stgPts c cc0_stg5_0 f)
      ⊢ iprop((stJ m c 7 ∗ stgPts c cc0_stg5_0 (setRow 1 f (k0_pay40 v140 v386 z)) -∗ Q ⟨⟩)
        -∗ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c (myId c) v140 v386 z) Q) := by
  rw [k0_part11_eq_skeleton]; unfold k0_part11_skel
  iintro ⟨#Hr, HJ, H⟩ Hk
  iapply (row_store c 1) $$ [H]
  · iexact H
  iintro H
  iapply (copyWait_step m K c 1 (by decide) (back36_iff c) (fun h i hi => sem_send i ((off23_eq c h).trans (by rw [hi])) _) (by exact fun _ => rfl)) $$ [HJ]
  · isplitr; · iexact Hr
    iexact HJ
  iintro HJ
  iapply (copyWait_step m K c 2 (by decide) (back37_iff c) (fun h i hi => sem_send i ((off25_eq c h).trans (by rw [hi])) _) (by exact fun _ => rfl)) $$ [HJ]
  · isplitr; · iexact Hr
    iexact HJ
  iintro HJ
  iapply (copyWait_step m K c 3 (by decide) (back38_iff c) (fun h i hi => sem_send i ((off27_eq c h).trans (by rw [hi])) _) (by exact fun _ => rfl)) $$ [HJ]
  · isplitr; · iexact Hr
    iexact HJ
  iintro HJ
  iapply (copyWait_step m K c 4 (by decide) (back39_iff c) (fun h i hi => sem_send i ((off29_eq c h).trans (by rw [hi])) _) (by exact fun _ => rfl)) $$ [HJ]
  · isplitr; · iexact Hr
    iexact HJ
  iintro HJ
  iapply (copyWait_step m K c 5 (by decide) (back40_iff c) (fun h i hi => sem_send i ((off31_eq c h).trans (by rw [hi])) _) (by exact fun _ => rfl)) $$ [HJ]
  · isplitr; · iexact Hr
    iexact HJ
  iintro HJ
  iapply (copyWait_step m K c 6 (by decide) (back41_iff c) (fun h i hi => sem_send i ((off33_eq c h).trans (by rw [hi])) _) (by exact fun _ => rfl)) $$ [HJ]
  · isplitr; · iexact Hr
    iexact HJ
  iintro HJ
  iapply (pure_step c)
  iapply Hk
  isplitl [HJ]; · iexact HJ
  iexact H

end Cert.KernelIdeal.Run

end
-- ==== Proof.Body.lean ====
/-
  The kernel's body, run once at a device `c`: from what the launch gives it to what it gives back.
-/
module

public import proofs.«01_k».proof.Proof.Parts4

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Kx → ℕ)

/-! ## From one phase to the next -/

/-- After the barrier waits: the barrier's round is over, and the slots at the later devices are here. -/
theorem bar_done (c : Dev nD) : iprop(records m K ∗ stB (F := F) c 7)
    ⊢ |={Set.univ}=> iprop(owesE c (oRecv c (c.val + 1)) ∗ atPos ER (barCell c) 1 ∅ 0
      ∗ bigSep (rangeSet 8 (c.val + 1) 8) fun i => iprop(∃ f, slotPts i c fullShare f)) := by
  have hc : c.val ≤ 7 := Nat.le_of_lt_succ c.isLt
  unfold stB
  iintro ⟨#Hr, HO, -, %S, %hS, Hat, Hp⟩
  have hS0 : dutyOf (c, none) \ S = ∅ := Finset.card_eq_zero.1 (by have := hS.2; omega)
  have hSd : S = dutyOf (c, none) := Finset.Subset.antisymm hS.1 (Finset.sdiff_eq_empty_iff_subset.1 hS0)
  have hD : (Rd (F := F) m).duties (barCell c) 0 ⊆ S := by rw [duties_k, hSd]
  have hE : min 7 (7 - c.val) = (Rd (F := F) m).expect (barCell c) 0 := by
    rw [expect_k, card_duty_bar]; show _ = (7 - c.val) * 1; omega
  imod (Rounds.fupd_skip ER (Rd m) (g := barCell c) (R := 0) (κ := K (c, none)) hD hE (Set.mem_univ _)) $$ [Hat] with ⟨Hat, -⟩
  · isplitr; · iapply (inv_at m K (c, none)); iexact Hr
    iexact Hat
  imodintro
  isplitl [HO]; · iexact HO
  isplitl [Hat]; · iexact Hat
  have e : S = rangeSet 8 (c.val + 1) 8 := by
    rw [hSd]; ext d; have := d.isLt; rw [mem_duty_bar, mem_rangeSet]; omega
  rw [← e]; iexact Hp

omit [FloatOps F] [Named F] in
theorem ext_of {P Q : sProp 𝕄} (h : P ⊢ Q) (h' : Q ⊢ P) : P = Q := Entails.antisymm h h'

/-- The shares of slot `c` that no copy reads from. -/
def ownRest (c : Dev nD) : sProp 𝕄 :=
  iprop(slotPts c c (shareDrop fullShare.right 8) (kvT m) ∗ bigSep (rangeSet 8 0 (c.val + 1)) fun i => slotPts c c (qS i) (kvT m))

/-- Slot `c` is one half to read, the shares of the copies, and the rest. -/
theorem own_split (c : Dev nD) : slotPts (F := F) c c fullShare (kvT m)
    = iprop(slotPts c c fullShare.left (kvT m) ∗ ownRest m c ∗ bigSep (rangeSet 8 (c.val + 1) 8) fun i => slotPts c c (qS i) (kvT m)) := by
  have h := pointsTo_toks (Ix := Unit) (Name := ℕ) (U := UU) (Lvl := ℕ) (Val := Elt F) (ℓ := kvLoc c) (S := slotsOf c c) (f := kvT m) fullShare.right 8
  have h' : slotPts (F := F) c c fullShare.right (kvT m)
      = iprop(slotPts c c (shareDrop fullShare.right 8) (kvT m) ∗ bigSep Finset.univ fun i : Fin 8 => slotPts c c (qS i) (kvT m)) :=
    Entails.antisymm h.1 h.2
  rw [slot_halves, h', ← rangeSet_univ, bigSep_rangeSet_split (Nat.zero_le (c.val + 1)) (show c.val + 1 ≤ 8 from c.isLt)]
  unfold ownRest
  refine ext_of ?_ ?_
  · iintro ⟨A, B, C, D⟩
    isplitl [A]; · iexact A
    isplitr [D]
    · isplitl [B]; · iexact B
      iexact C
    iexact D
  · iintro ⟨A, ⟨B, C⟩, D⟩
    isplitl [A]; · iexact A
    isplitl [B]; · iexact B
    isplitl [C]; · iexact C
    iexact D

/-- Everything is there for the sends. -/
theorem to_sends (c : Dev nD) :
    iprop(owesE c (oRecv c (c.val + 1)) ∗ (bigSep (rangeSet 8 (c.val + 1) 8) fun i => iprop(∃ f, slotPts i c fullShare f))
      ∗ (bigSep (rangeSet 8 (c.val + 1) 8) fun i => iprop(dutyTok ER (recvCell i c) 0 0 ∗ dutyTok ER (sendCell c i) 0 0))
      ∗ bigSep (rangeSet 8 (c.val + 1) 8) fun i => slotPts c c (qS i) (kvT m)) ⊢ stE (F := F) m c 1 := by
  unfold stE
  rw [bigSep_rangeSet_empty (le_refl (c.val + 1))]
  have e : (bigSep (rangeSet 8 (c.val + 1) 8) (sendKit m c) : sProp 𝕄)
      = iprop((bigSep (rangeSet 8 (c.val + 1) 8) fun i => iprop(∃ f, slotPts (F := F) i c fullShare f))
      ∗ (bigSep (rangeSet 8 (c.val + 1) 8) fun i => dutyTok ER (recvCell i c) 0 0)
      ∗ (bigSep (rangeSet 8 (c.val + 1) 8) fun i => dutyTok ER (sendCell c i) 0 0)
      ∗ bigSep (rangeSet 8 (c.val + 1) 8) fun i => slotPts c c (qS i) (kvT m)) := by
    rw [← bigSep_sep', ← bigSep_sep', ← bigSep_sep']; rfl
  rw [e, bigSep_sep']
  iintro ⟨HO, Hs, ⟨Ht, Ht'⟩, Hq⟩
  isplitl [HO]; · iexact HO
  isplitl
  · isplitl [Hs]; · iexact Hs
    isplitl [Ht]; · iexact Ht
    isplitl [Ht']; · iexact Ht'
    iexact Hq
  iempintro

/-- After the sends nothing is owed: the receive waits can start. -/
theorem to_recvs (c : Dev nD) :
    iprop(stE (F := F) m c 8 ∗ bigSep (rangeSet 8 0 c.val) fun i => iprop(cred (tallyAt (recvCell c i) () N) ∗ atPos ER (recvCell c i) 0 ∅ 0))
      ⊢ iprop(stG m c 0 ∗ bigSep (rangeSet 8 (c.val + 1) 8) fun i => cred (tallyAt (sendCell c i) () N)) := by
  unfold stE stG oRecv
  rw [bigSep_rangeSet_empty (show 8 ≤ c.val + 8 by omega), rangeSet_empty_high (show 8 ≤ c.val + 8 by omega), Finset.sum_empty,
    rangeSet_top (c.val + 1) (c.val + 8) (by omega), Nat.zero_min, bigSep_rangeSet_empty (le_refl 0)]
  iintro ⟨⟨HO, -, Hc⟩, Hg⟩
  isplitr [Hc]
  · isplitl [HO]; · iexact HO
    isplitl [Hg]; · iexact Hg
    iempintro
  iexact Hc

/-- The slots of the earlier devices, with their cells' positions. -/
def gotten (c : Dev nD) : sProp 𝕄 :=
  bigSep (rangeSet 8 0 c.val) fun i => iprop(slotPts c i fullShare (kvT m) ∗ atPos ER (recvCell c i) 1 ∅ 0)
/-- The shares that the copies read from, come back, with their cells' positions. -/
def copied (c : Dev nD) : sProp 𝕄 :=
  bigSep (rangeSet 8 (c.val + 1) 8) fun i => iprop(slotPts c c (qS i) (kvT m) ∗ atPos ER (sendCell c i) 1 ∅ 0)

/-- After the receive waits: the waits for the own copies can start. -/
theorem to_backs (c : Dev nD) :
    iprop(stG (F := F) m c 7 ∗ (bigSep (rangeSet 8 (c.val + 1) 8) fun i => cred (tallyAt (sendCell c i) () N))
        ∗ bigSep (rangeSet 8 (c.val + 1) 8) fun i => atPos ER (sendCell c i) 0 ∅ 0)
      ⊢ iprop(stJ m c 1 ∗ gotten m c) := by
  have hc : c.val ≤ 7 := Nat.le_of_lt_succ c.isLt
  unfold stG stJ gotten
  rw [Nat.min_eq_right hc, bigSep_rangeSet_empty (le_refl (c.val + 1)), bigSep_sep' (rangeSet 8 (c.val + 1) 8)]
  iintro ⟨⟨HO, -, Hg⟩, Hc, Ha⟩
  isplitr [Hg]
  · isplitl [HO]; · iexact HO
    isplitl
    · isplitl [Hc]; · iexact Hc
      iexact Ha
    iempintro
  iexact Hg

theorem backs_done (c : Dev nD) : stJ (F := F) m c 8 ⊢ iprop(owesE c 0 ∗ copied m c) := by
  unfold stJ copied
  rw [rangeSet_top (c.val + 1) (c.val + 8) (by omega)]
  iintro ⟨HO, -, H⟩
  isplitl [HO]; · iexact HO
  iexact H

/-- The zeroed slots. -/
theorem zeros_done (c : Dev nD) : stD (F := F) m c 8 ⊢ bigSep (rangeSet 8 (c.val + 1) 8) fun i => slotPts c i fullShare (kvAt m c) := by
  unfold stD
  iintro ⟨-, H⟩; iexact H

theorem zeros_start (c : Dev nD) : (bigSep (rangeSet 8 (c.val + 1) 8) fun i => iprop(∃ f, slotPts c i fullShare f)) ⊢ stD (F := F) m c 1 := by
  unfold stD
  rw [Nat.max_eq_left (by omega), bigSep_rangeSet_empty (show 1 ≤ c.val + 1 by omega)]
  iintro H
  isplitl [H]; · iexact H
  iempintro

theorem bind_step (c : Dev nD) {α β : Type} (p : Prog (TpuEff nD τ sig (Elt F) Λ₀ .tc) α) (k : α → Prog (TpuEff nD τ sig (Elt F) Λ₀ .tc) β)
    (Q : β → sProp 𝕄) : WP c p (fun a => WP c (k a) Q) ⊢ WP c (p >>= k) Q := Entails.of_eq (wp_bind ..).symm

/-! ## The body -/

/-- What device `c`'s body starts from, its staged blocks aside. -/
def bodyStart (c : Dev nD) : sProp 𝕄 :=
  iprop(stA c 0 ∗ cred (tallyAt (barCell c) () (7 - c.val)) ∗ atPos ER (barCell c) 0 ∅ 0
    ∗ (∃ f, slotPts c c fullShare f) ∗ (bigSep (rangeSet 8 (c.val + 1) 8) fun i => iprop(∃ f, slotPts c i fullShare f))
    ∗ (bigSep (rangeSet 8 (c.val + 1) 8) fun i => iprop(dutyTok ER (recvCell i c) 0 0 ∗ dutyTok ER (sendCell c i) 0 0))
    ∗ (bigSep (rangeSet 8 0 c.val) fun i => iprop(cred (tallyAt (recvCell c i) () N) ∗ atPos ER (recvCell c i) 0 ∅ 0))
    ∗ bigSep (rangeSet 8 (c.val + 1) 8) fun i => atPos ER (sendCell c i) 0 ∅ 0)

/-- What it ends with, its staged blocks aside. -/
def bodyEnd (c : Dev nD) : sProp 𝕄 :=
  iprop(owesE c 0 ∗ atPos ER (barCell c) 1 ∅ 0 ∗ gotten m c ∗ copied m c ∗ ownRest m c ∗ slotPts c c fullShare.left (kvT m)
    ∗ bigSep (rangeSet 8 (c.val + 1) 8) fun i => slotPts c i fullShare (kvAt m c))

/-- The staged inputs of device `c`. -/
def inputs (c : Dev nD) : sProp 𝕄 :=
  iprop(stgPts c cc0_stg0_0 (inX m c) ∗ stgPts c cc0_stg1_0 (inWq m c) ∗ stgPts c cc0_stg2_0 (inK m c) ∗ stgPts c cc0_stg3_0 (inV m c)
    ∗ stgPts c cc0_stg4_0 (inWo m c))

/-- The result of device `c`. -/
def outAt (c : Dev nD) : S2x128x512.Idx → Elt F .f32 :=
  outF (outBlk0 (maskOf c) (k0_pay13 (inWo m c)) (k0_pay14 (inWq m c) (xRow (inX m c) 0)) (kvAt m c))
    (outBlk1 (maskOf c) (k0_pay13 (inWo m c)) (k0_pay15 (inWq m c) (xRow (inX m c) 1)) (kvAt m c))

set_option maxHeartbeats 2000000 in
/-- The body of device `c`. -/
theorem run_body (c : Dev nD) (f : S2x128x512.Idx → Elt F .f32) (Q : PUnit → sProp 𝕄) :
    iprop(records m K ∗ bodyStart c ∗ inputs m c ∗ stgPts c cc0_stg5_0 f)
      ⊢ iprop((bodyEnd m c ∗ inputs m c ∗ stgPts c cc0_stg5_0 (outAt m c) -∗ Q ⟨⟩) -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Q) := by
  rw [cc0_body_eq_skeleton]; unfold cc0_body_skel bodyStart inputs
  iintro ⟨#Hr, ⟨HA, Hcb, Hab, Hown, Hlater, Htoks, Hcr, Has⟩, ⟨H0, H1, H2, H3, H4⟩, H5⟩ Hk
  iapply (bind_step c)
  iapply (run_part1 m K c) $$ [HA Hcb Hab]
  · isplitr; · iexact Hr
    isplitl [HA]; · iexact HA
    isplitl [Hcb]; · iexact Hcb
    iexact Hab
  iintro HB
  iapply (bind_step c)
  iapply (run_part2 m K c (inK m c) (inV m c)) $$ [HB H2 H3]
  · isplitr; · iexact Hr
    isplitl [HB]; · iexact HB
    isplitl [H2]; · iexact H2
    iexact H3
  iintro ⟨HB, H2, H3⟩
  imod (bar_done m K c) $$ [HB] with ⟨HO, Hab, Hpeer⟩
  · isplitr; · iexact Hr
    iexact HB
  ihave HD := (zeros_start m c) $$ Hlater
  iapply (bind_step c)
  iapply (run_part3 m c) $$ [Hown HD]
  · isplitl [Hown]; · iexact Hown
    iexact HD
  iintro ⟨Hown, HD⟩
  ihave Hs := (Entails.of_eq (own_split m c)) $$ Hown
  icases Hs with ⟨Hleft, Hrest, Hq⟩
  ihave HE := (to_sends m c) $$ [HO Hpeer Htoks Hq]
  · isplitl [HO]; · iexact HO
    isplitl [Hpeer]; · iexact Hpeer
    isplitl [Htoks]; · iexact Htoks
    iexact Hq
  iapply (bind_step c)
  iapply (run_part4 m K c) $$ [HD HE]
  · isplitr; · iexact Hr
    isplitl [HD]; · iexact HD
    iexact HE
  iintro ⟨HD, HE⟩
  iapply (bind_step c)
  iapply (run_part5 m K c (inX m c) (inWq m c) (inWo m c)) $$ [HE H0 H1 H4]
  · isplitr; · iexact Hr
    isplitl [HE]; · iexact HE
    isplitl [H1]; · iexact H1
    isplitl [H4]; · iexact H4
    iexact H0
  iintro ⟨HE, H1, H4, H0⟩
  ihave HG := (to_recvs m c) $$ [HE Hcr]
  · isplitl [HE]; · iexact HE
    iexact Hcr
  icases HG with ⟨HG, Hcs⟩
  iapply (bind_step c)
  iapply (run_part6 m K c) $$ [HG]
  · isplitr; · iexact Hr
    iexact HG
  iintro HG
  iapply (bind_step c)
  iapply (run_part7 m K c) $$ [HG HD Hleft]
  · isplitr; · iexact Hr
    isplitl [HG]; · iexact HG
    isplitl [HD]; · iexact HD
    iexact Hleft
  iintro ⟨HG, HD, Hleft⟩
  iapply (bind_step c)
  iapply (run_part8 c)
  iapply (bind_step c)
  iapply (run_part9 c f) $$ [H5]
  · iexact H5
  iintro H5
  iapply (bind_step c)
  iapply (run_part10 c)
  ihave HJ := (to_backs m c) $$ [HG Hcs Has]
  · isplitl [HG]; · iexact HG
    isplitl [Hcs]; · iexact Hcs
    iexact Has
  icases HJ with ⟨HJ, Hgot⟩
  iapply (bind_step c)
  iapply (run_part11 m K c) $$ [HJ H5]
  · isplitr; · iexact Hr
    isplitl [HJ]; · iexact HJ
    iexact H5
  iintro ⟨HJ, H5⟩
  iapply (copyWait_step m K c 7 (by decide) (back42_iff c) (fun h i hi => sem_send i ((off35_eq c h).trans (by rw [hi])) _) (by exact fun _ => rfl)) $$ [HJ]
  · isplitr; · iexact Hr
    iexact HJ
  iintro HJ
  iapply (pure_step c)
  ihave HZ := (backs_done m c) $$ HJ
  icases HZ with ⟨HO, Hcop⟩
  ihave Hz := (zeros_done m c) $$ HD
  iapply Hk
  isplitl [HO Hab Hgot Hcop Hrest Hleft Hz]
  · unfold bodyEnd
    isplitl [HO]; · iexact HO
    isplitl [Hab]; · iexact Hab
    isplitl [Hgot]; · iexact Hgot
    isplitl [Hcop]; · iexact Hcop
    isplitl [Hrest]; · iexact Hrest
    isplitl [Hleft]; · iexact Hleft
    iexact Hz
  isplitl [H0 H1 H2 H3 H4]
  · isplitl [H0]; · iexact H0
    isplitl [H1]; · iexact H1
    isplitl [H2]; · iexact H2
    isplitl [H3]; · iexact H3
    iexact H4
  rw [setRow_both]
  unfold outAt outBlk0 outBlk1 maskOf
  iexact H5

end Cert.KernelIdeal.Run

end
-- ==== Proof.Deal.lean ====
/-
  The launch's set-up: the cells and duty tokens of all eight devices dealt to the devices that use them, the
  credit that each device starts with, and what every device holds when its body begins.
-/
module

public import proofs.«01_k».proof.Proof.Body

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The kinds of cell, listed -/

omit [FloatOps F] [Named F] in
/-- A product over one device's cells: its barrier's factor, its sends' and its receives'. -/
theorem kx_split (Φ : Kx → sProp 𝕄) : bigSep Finset.univ Φ
    = iprop(Φ none ∗ (bigSep Finset.univ fun i : Fin 8 => Φ (some (false, i))) ∗ bigSep Finset.univ fun i : Fin 8 => Φ (some (true, i))) := by
  have h : (Finset.univ : Finset Kx).erase none = Finset.univ.map ⟨some, Option.some_injective _⟩ := by decide
  have hb : (Finset.univ : Finset Bool) = {false} ∪ {true} := by decide
  rw [bigSep_erase (Finset.mem_univ none), h, bigSep_map, bigSep_univ_prod, hb, bigSep_union (by decide), bigSep_singleton, bigSep_singleton]
  rfl

/-- The kernel's own semaphores: its sends and its receives. -/
abbrev osem : Bool × Fin 8 → SemLoc sig := fun k => ksem (some k)

omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
/-- All the cells of one device at zero: the kernel's own semaphores and the runtime's barrier. -/
theorem sems0_eq (c : Dev nD) :
    (bigSep Finset.univ fun k : Kx => semVal (kcell (c, k)) 0 : sProp 𝕄)
      = iprop(unscopedSems0 c ∗ Pipeline.ownSems0 (Ix := Unit) (Name := ℕ) (U := UU) (Lvl := ℕ) (Val := Elt F) (τ := τ) osem c) := by
  have h : (Finset.univ : Finset Kx).erase none = Finset.univ.map ⟨some, Option.some_injective _⟩ := by decide
  rw [unscopedSems0_eq, bigSep_erase (Finset.mem_univ none), h, bigSep_map]
  rfl

/-! ## Dealing -/

def ringCells : Finset (GSem nD τ sig) := Finset.univ.map ⟨fun ck : Dev nD × Kx => kcell ck, kcell_injective⟩

/-- The token of duty `d` of a cell's round. -/
def tokOf (x : (Dev nD × Kx) × Fin 8) : GSem nD τ sig × ℕ × Fin 8 := (kcell x.1, 0, x.2)
theorem tokOf_injective : Function.Injective tokOf := by
  rintro ⟨ck, d⟩ ⟨ck', d'⟩ h
  have h1 : ck = ck' := kcell_injective (congrArg Prod.fst h)
  have h2 : d = d' := congrArg (fun x => x.2.2) h
  rw [h1, h2]
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun k : Kx => bigSep Finset.univ fun d : Fin 8 => dutyTok ER (kcell (c, k)) 0 d

/-- What the launch deals device `c`. -/
def G (c : Dev nD) : sProp 𝕄 :=
  iprop((bigSep Finset.univ fun k : Kx => roundState ER (Rd m) (kcell (c, k)) 0)
    ∗ (bigSep Finset.univ fun k : Kx => atPos ER (kcell (c, k)) 0 ∅ 0)
    ∗ (bigSep Finset.univ fun k : Kx => reached ER (kcell (c, k)) 0) ∗ toks c)

/-- The tokens that device `c` pays with: its signals to the earlier devices, its copies to the later ones. -/
def payToks (c : Dev nD) : sProp 𝕄 :=
  iprop((bigSep (rangeSet 8 0 c.val) fun o => dutyTok ER (barCell o) 0 c)
    ∗ bigSep (rangeSet 8 (c.val + 1) 8) fun i => iprop(dutyTok ER (recvCell i c) 0 0 ∗ dutyTok ER (sendCell c i) 0 0))

/-- What stays with device `c`: the positions of its cells and the tokens that it pays with. -/
def linear (c : Dev nD) : sProp 𝕄 :=
  iprop((bigSep Finset.univ fun k : Kx => atPos ER (kcell (c, k)) 0 ∅ 0) ∗ payToks c)

/-- The cells' records that every device may consult, before the levels are known. -/
def shared (K : Dev nD × Kx → ℕ) : sProp 𝕄 :=
  iprop((bigSep Finset.univ fun ck => cellInv ER (Rd m) (K ck) (kcell ck)) ∗ bigSep Finset.univ fun ck => reached ER (kcell ck) 0)

instance shared_persistent (K) : BI.Persistent (shared (F := F) m K) := by unfold shared; infer_instance

/-- What the devices' exchange of names makes of it. -/
def G' (c : Dev nD) : sProp 𝕄 := iprop(∃ K, shared m K ∗ linear c)

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : Kx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- Every cell of device `c` gets its invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kx => iprop(∃ κ : ℕ, cellInv ER (Rd m) κ (kcell (c, k))))
          ∗ (bigSep Finset.univ fun k : Kx => atPos ER (kcell (c, k)) 0 ∅ 0)
          ∗ (bigSep Finset.univ fun k : Kx => reached ER (kcell (c, k)) 0) ∗ toks c) := by
  unfold G
  iintro ⟨Hos, Hus, Hst, Hrest⟩
  ihave Hv := (Entails.of_eq (sems0_eq (F := F) c).symm) $$ [Hos Hus]
  · isplitl [Hus] <;> iassumption
  imod (show iprop((bigSep Finset.univ fun k : Kx => semVal (kcell (c, k)) 0) ∗ bigSep Finset.univ fun k : Kx => roundState ER (Rd m) (kcell (c, k)) 0)
      ⊢ (|={Set.univ}=> bigSep Finset.univ fun k : Kx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  iexact Hrest

omit [FloatOps F] [Named F] in
theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] [Named F] in
/-- A product over pairs, taken in the other order. -/
theorem bigSep_swap {A B : Type} [Fintype A] [Fintype B] (Φ : A → B → sProp 𝕄) :
    bigSep Finset.univ (fun a => bigSep Finset.univ (Φ a)) = bigSep Finset.univ fun b => bigSep Finset.univ fun a => Φ a b := by
  have h := bigSep_univ_prod (fun x : A × B => Φ x.1 x.2)
  have h' := bigSep_univ_prod (fun x : B × A => Φ x.2 x.1)
  rw [← h, ← h', bigSep_univ_equiv (Equiv.prodComm B A)]
  rfl

omit [FloatOps F] [Named F] in
/-- The tokens dealt out: each goes to the device that does what it stands for. -/
theorem toks_out : (bigSep Finset.univ fun c : Dev nD => (toks c : sProp 𝕄)) ⊢ bigSep Finset.univ fun c : Dev nD => payToks c := by
  unfold toks payToks
  simp only [kx_split]
  rw [bigSep_sep', bigSep_sep', bigSep_sep',
    bigSep_swap fun (o : Dev nD) (d : Fin 8) => (dutyTok ER (barCell o) 0 d : sProp 𝕄),
    bigSep_swap fun (i : Dev nD) (c : Fin 8) => bigSep Finset.univ fun d : Fin 8 => (dutyTok ER (recvCell i c) 0 d : sProp 𝕄)]
  have low : (bigSep Finset.univ fun c : Dev nD => bigSep Finset.univ fun o : Dev nD => dutyTok ER (barCell o) 0 c)
      ⊢ (bigSep Finset.univ fun c : Dev nD => bigSep (rangeSet 8 0 c.val) fun o => dutyTok ER (barCell o) 0 c : sProp 𝕄) :=
    bigSep_mono fun c _ => bigSep_subset (Finset.subset_univ _)
  have pick (f : Dev nD → Fin 8 → GSem nD τ sig) :
      (bigSep Finset.univ fun c : Dev nD => bigSep Finset.univ fun i : Fin 8 => bigSep Finset.univ fun d : Fin 8 => dutyTok ER (f c i) 0 d)
      ⊢ (bigSep Finset.univ fun c : Dev nD => bigSep (rangeSet 8 (c.val + 1) 8) fun i => dutyTok ER (f c i) 0 0 : sProp 𝕄) :=
    bigSep_mono fun c _ => (bigSep_subset (Finset.subset_univ _)).trans (bigSep_mono fun i _ => bigSep_elim (Finset.mem_univ 0))
  have join : iprop((bigSep Finset.univ fun c : Dev nD => bigSep (rangeSet 8 (c.val + 1) 8) fun i => dutyTok ER (recvCell i c) 0 0)
        ∗ bigSep Finset.univ fun c : Dev nD => bigSep (rangeSet 8 (c.val + 1) 8) fun i => dutyTok ER (sendCell c i) 0 0)
      ⊢ (bigSep Finset.univ fun c : Dev nD => bigSep (rangeSet 8 (c.val + 1) 8) fun i => iprop(dutyTok ER (recvCell i c) 0 0 ∗ dutyTok ER (sendCell c i) 0 0) : sProp 𝕄) := by
    simp only [bigSep_sep']; exact Entails.refl _
  iintro ⟨HB, HS, HR⟩
  isplitl [HB]
  · iapply low $$ HB
  · iapply join
    isplitl [HR]
    · iapply (pick fun c i => recvCell i c) $$ HR
    · iapply (pick fun c i => sendCell c i) $$ HS

theorem regroup :
    (bigSep Finset.univ fun c : Dev nD => iprop((bigSep Finset.univ fun k : Kx => iprop(∃ κ : ℕ, cellInv ER (Rd (F := F) m) κ (kcell (c, k))))
          ∗ (bigSep Finset.univ fun k : Kx => atPos ER (kcell (c, k)) 0 ∅ 0)
          ∗ (bigSep Finset.univ fun k : Kx => reached ER (kcell (c, k)) 0) ∗ toks c) : sProp 𝕄)
      ⊢ bigSep Finset.univ (G' m) := by
  rw [bigSep_sep', bigSep_sep', bigSep_sep', ← bigSep_univ_prod (fun ck : Dev nD × Kx => iprop(∃ κ : ℕ, cellInv ER (Rd m) κ (kcell ck))),
    ← bigSep_univ_prod (fun ck : Dev nD × Kx => (reached ER (kcell ck) 0 : sProp 𝕄))]
  iintro ⟨HI, Hat, #HR, Htok⟩
  ihave HK := (BI.bigSep_exists_pi Finset.univ (fun (ck : Dev nD × Kx) (κ : ℕ) => (cellInv ER (Rd m) κ (kcell ck) : sProp 𝕄))) $$ HI
  icases HK with ⟨%K, #HI⟩
  ihave Htk := (toks_out (F := F)) $$ Htok
  iapply (with_shared (R := shared m K) (Φ := fun c => linear c) fun c _ => show iprop(shared m K ∗ linear c) ⊢ G' m c from by
    unfold G'; iintro H; iexists K; iexact H)
  isplitr
  · unfold shared; isplitl; · iexact HI
    iexact HR
  · unfold linear; rw [bigSep_sep']
    isplitl [Hat]; · iexact Hat
    iexact Htk

/-- Every device's semaphores become cells, known to all. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What a sum of equal debts to a family of cells owes one cell. -/
theorem owed_sum (S : Finset (Fin 8)) (f : Fin 8 → GSem nD τ sig) (n : ℕ) (g : GSem nD τ sig) :
    (∑ o ∈ S, (tallyAt (f o) () n : CellTallies nD τ sig Unit)) g () = ∑ o ∈ S, if g = f o then n else 0 := by
  rw [Finset.sum_apply, Finsupp.finset_sum_apply]
  refine Finset.sum_congr rfl fun o _ => ?_
  rw [tallyAt_apply]
  by_cases h : g = f o
  · rw [if_pos ⟨h, rfl⟩, if_pos h]
  · rw [if_neg (fun h' => h h'.1), if_neg h]

/-- Device `d` owes device `c`'s barrier one signal if it comes later. -/
theorem owed_bar (d c : Dev nD) : O₀ d (barCell c) () = if c.val < d.val then 1 else 0 := by
  unfold O₀ oRecv oBar
  rw [Pi.add_apply, Finsupp.add_apply, owed_sum, owed_sum,
    Finset.sum_eq_zero (fun o _ => if_neg fun h => by have := (kcell_inj_iff _ _).1 h; cases this), Nat.zero_add]
  have h (o : Fin 8) : barCell c = barCell o ↔ c = o :=
    ⟨fun h => congrArg Prod.fst ((kcell_inj_iff _ _).1 h), fun h => h ▸ rfl⟩
  simp only [h]
  rw [Finset.sum_ite_eq]
  exact if_congr (by rw [mem_rangeSet]; exact ⟨fun h => h.2, fun h => ⟨Nat.zero_le _, h⟩⟩) rfl rfl

/-- Only device `o` owes a landing in slot `o` of a later device `c`. -/
theorem owed_recv (d c o : Dev nD) (ho : o.val < c.val) : O₀ d (recvCell c o) () = if d = o then N else 0 := by
  unfold O₀ oRecv oBar
  rw [Pi.add_apply, Finsupp.add_apply, owed_sum, owed_sum,
    Finset.sum_eq_zero (s := rangeSet 8 0 d.val) (fun o _ => if_neg fun h => by have := (kcell_inj_iff _ _).1 h; cases this), Nat.add_zero]
  have h (i : Fin 8) : recvCell c o = recvCell i d ↔ c = i ∧ d = o := by
    refine ⟨fun h => ?_, fun h => by rw [h.1, h.2]⟩
    have h' := (kcell_inj_iff _ _).1 h
    refine ⟨congrArg Prod.fst h', ?_⟩
    have h2 := congrArg Prod.snd h'
    have h3 : o = d := congrArg Prod.snd (Option.some.inj h2)
    exact h3.symm
  simp only [h]
  by_cases hd : d = o
  · subst hd
    simp only [and_true, if_true]
    rw [Finset.sum_ite_eq, if_pos ((mem_rangeSet _ _ _).2 ⟨ho, c.isLt⟩)]
  · rw [if_neg hd]
    exact Finset.sum_eq_zero fun i _ => if_neg fun h => hd h.2

theorem launch_bar (c : Dev nD) :
    tallyOn (barCell c) (launchCredit (Pipeline.owing O₀) 0 (barCell c)) = (tallyAt (barCell c) () (7 - c.val) : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c o : Dev nD) (ho : o.val < c.val) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv d c o ho,
    Finset.sum_ite_eq' Finset.univ o fun _ => N, if_pos (Finset.mem_univ _)]

omit [FloatOps F] [Named F] in
/-- Device `c` starts with credit for the signals and the landings that it waits for. -/
theorem creds (c : Dev nD) :
    (Pipeline.launchCred O₀ c : sProp 𝕄) ⊢ iprop(cred (tallyAt (barCell c) () (7 - c.val)) ∗ bigSep (rangeSet 8 0 c.val) fun o => cred (tallyAt (recvCell c o) () N)) := by
  have kinds : (Pipeline.launchCred O₀ c : sProp 𝕄) ⊢ iprop(cred (tallyOn (barCell c) (launchCredit (Pipeline.owing O₀) 0 (barCell c)))
      ∗ (bigSep Finset.univ fun i : Fin 8 => cred (tallyOn (sendCell c i) (launchCredit (Pipeline.owing O₀) 0 (sendCell c i))))
      ∗ bigSep Finset.univ fun i : Fin 8 => cred (tallyOn (recvCell c i) (launchCredit (Pipeline.owing O₀) 0 (recvCell c i)))) := by
    unfold Pipeline.launchCred
    refine (bigSep_subset (Finset.subset_univ (Finset.univ.map ⟨ksem, ksem_injective⟩))).trans ?_
    rw [bigSep_map, kx_split]
    exact Entails.refl _
  have recvs : (bigSep Finset.univ fun i : Fin 8 => cred (tallyOn (recvCell c i) (launchCredit (Pipeline.owing O₀) 0 (recvCell c i))))
      ⊢ (bigSep (rangeSet 8 0 c.val) fun o => cred (tallyAt (recvCell c o) () N) : sProp 𝕄) :=
    (bigSep_subset (Finset.subset_univ _)).trans (bigSep_mono fun o ho =>
      Entails.of_eq (congrArg cred (launch_recv c o ((mem_rangeSet _ _ _).1 ho).2)))
  iintro H
  ihave H' := kinds $$ H
  icases H' with ⟨HB, -, HR⟩
  isplitl [HB]
  · iapply (Entails.of_eq (congrArg cred (launch_bar c))) $$ HB
  · iapply recvs $$ HR

/-! ## What a device starts with and ends with -/

/-- What device `c`'s body starts from: the records, its positions, its tokens, its credit. -/
def start (c : Dev nD) : sProp 𝕄 :=
  iprop((∃ K, records m K ∗ linear c) ∗ cred (tallyAt (barCell c) () (7 - c.val))
    ∗ bigSep (rangeSet 8 0 c.val) fun o => cred (tallyAt (recvCell c o) () N))

def Φ₀ (c : Dev nD) : sProp 𝕄 := iprop(start m c ∗ ∃ f, kvLoc c ↦{fullShare} f)

/-- After the body: the buffer whole, and every cell closed at zero. -/
def Φ₁ (c : Dev nD) : sProp 𝕄 := iprop((∃ f : Buf (Elt F) (kvLoc c), kvLoc c ↦{fullShare} f) ∗ bigSep Finset.univ fun k : Kx => semVal (kcell (c, k)) 0)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' records shared
  icases HG with ⟨%K, ⟨HI, HR⟩, HL⟩
  isplitl
  · isplitr [Hc]
    · iexists K
      isplitr [HL]
      · isplitl [HI]; · iexact HI
        isplitl [HR]; · iexact HR
        iexact Hlev
      · iexact HL
    · iexact Hc
  · iempintro

end Cert.KernelIdeal.Run

end
-- ==== Proof.Launch.lean ====
/-
  The launch: the pipeline's proof data of the one grid point, its body obligation, and the run of the whole
  program on the eight devices.
-/
module

public import proofs.«01_k».proof.Proof.Deal
public import Idealize.ShloMosaic.Lib.Pipeline.CollectiveSegs

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inWq m c
    | ⟨2, _⟩ => inK m c
    | ⟨3, _⟩ => inV m c
    | ⟨4, _⟩ => inWo m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] [Named F] in
/-- While it waits for the staging copies a device owes only signals and landings, which lie above them. -/
theorem mayWait_stage (c : Dev nD) (q : DmaSem sig) (hq : ∀ k, ksem k ≠ .dma q) (O : CellTallies nD τ sig Unit) (hO : O = O₀ c ∨ O = 0) :
    (levAts L lv : sProp 𝕄) ⊢ MayWait (c : Thread nD τ) (.dma q) () O := by
  rcases hO with rfl | rfl
  · have pos (g : GSem nD τ sig) (u : Unit) (h : 0 < O₀ c g u) : ∃ o, g = recvCell o c ∨ g = barCell o := by
      unfold O₀ at h
      rw [Pi.add_apply, Finsupp.add_apply] at h
      rcases Nat.eq_zero_or_pos (oRecv c (c.val + 1) g u) with h0 | h0
      · rw [h0, Nat.zero_add] at h
        unfold oBar at h
        rw [owed_sum] at h
        obtain ⟨o, -, ho⟩ := Finset.exists_ne_zero_of_sum_ne_zero (Nat.pos_iff_ne_zero.1 h)
        exact ⟨o, Or.inr (by by_contra hg; exact ho (if_neg hg))⟩
      · obtain ⟨o, ho⟩ := oRecv_pos h0
        exact ⟨o, Or.inl ho⟩
    refine MayOwe.of_cut (L := L) (lev := lv) 0 (fun p hp => by rw [Finset.mem_singleton.mp hp]; exact Finset.mem_singleton_self _)
      (fun g u hg => by obtain ⟨o, rfl | rfl⟩ := pos g u hg <;> exact Finset.mem_singleton_self _)
      (fun p hp => by
        rw [Finset.mem_singleton.mp hp]
        unfold lv lift
        rw [dif_neg (fun ⟨ck, h⟩ => hq ck.2 (congrArg Prod.snd h))])
      (fun g u hg => by
        obtain ⟨o, rfl | rfl⟩ := pos g u hg
        · rw [lv_k]; exact Nat.two_pos
        · rw [lv_k]; exact Nat.one_pos)
  · rw [MayWait_zero]; iintro -; iempintro

/-! ## Closing the cells -/

variable (K : Dev nD × Kx → ℕ)

/-- The cells of a family, each past its last round, closed at zero. -/
theorem close_set (c : Dev nD) (S : Finset (Fin 8)) (f : Fin 8 → Kx) (R : ℕ)
    (h : ∀ i ∈ S, ∀ r, R ≤ r → (Rd (F := F) m).duties (kcell (c, f i)) r = ∅) :
    iprop(records m K ∗ bigSep S fun i => atPos ER (kcell (c, f i)) R ∅ 0)
      ⊢ |={Set.univ}=> bigSep S fun i => (semVal (kcell (c, f i)) 0 : sProp 𝕄) := by
  have one : ∀ i ∈ S, iprop(records m K ∗ atPos ER (kcell (c, f i)) R ∅ 0) ⊢ iprop(|={Set.univ}=> (semVal (kcell (c, f i)) 0 : sProp 𝕄)) := fun i hi => by
    iintro ⟨#Hr, Hat⟩
    imod (Rounds.cell_close ER (Rd m) (κ := K (c, f i)) (Set.mem_univ _) (fun h => h) (R := R) (h i hi)) $$ [Hat] with Hz
    · isplitr
      · iapply (inv_at m K (c, f i)); iexact Hr
      · iexact Hat
    imodintro
    iexact Hz
  exact (with_shared (R := records m K) one).trans (bigSep_fupd _ _)

/-- The cells that device `c`'s body never touches. -/
def idle (c : Dev nD) : sProp 𝕄 :=
  iprop((bigSep (rangeSet 8 0 (c.val + 1)) fun i => atPos ER (sendCell c i) 0 ∅ 0)
    ∗ bigSep (rangeSet 8 c.val 8) fun o => atPos ER (recvCell c o) 0 ∅ 0)

/-- With the body done, every cell of the device is closed at zero. -/
theorem close_all (c : Dev nD) :
    iprop(records m K ∗ idle c ∗ atPos ER (barCell c) 1 ∅ 0
        ∗ (bigSep (rangeSet 8 0 c.val) fun o => atPos ER (recvCell c o) 1 ∅ 0)
        ∗ bigSep (rangeSet 8 (c.val + 1) 8) fun i => atPos ER (sendCell c i) 1 ∅ 0)
      ⊢ |={Set.univ}=> bigSep Finset.univ fun k : Kx => (semVal (kcell (c, k)) 0 : sProp 𝕄) := by
  rw [kx_split]
  unfold idle
  iintro ⟨#Hr, ⟨Hs0, Hv0⟩, Hb, Hv1, Hs1⟩
  imod (Rounds.cell_close ER (Rd m) (κ := K (c, none)) (Set.mem_univ _) (fun h => h) (R := 1) (duties_later m (barCell c))) $$ [Hb] with Hzb
  · isplitr
    · iapply (inv_at m K (c, none)); iexact Hr
    · iexact Hb
  imod (close_set m K c (rangeSet 8 0 (c.val + 1)) (fun i => some (false, i)) 0 fun i hi r _ => by
    rcases Nat.eq_zero_or_pos r with rfl | hr
    · rw [duties_k]; exact duty_send_none (by have := ((mem_rangeSet _ _ _).1 hi).2; omega)
    · exact duties_later m _ r hr) $$ [Hs0] with Hzs0
  · isplitr
    · iexact Hr
    · iexact Hs0
  imod (close_set m K c (rangeSet 8 (c.val + 1) 8) (fun i => some (false, i)) 1 fun i _ => duties_later m _) $$ [Hs1] with Hzs1
  · isplitr
    · iexact Hr
    · iexact Hs1
  imod (close_set m K c (rangeSet 8 c.val 8) (fun i => some (true, i)) 0 fun i hi r _ => by
    rcases Nat.eq_zero_or_pos r with rfl | hr
    · rw [duties_k]; exact duty_recv_none (by have := ((mem_rangeSet _ _ _).1 hi).1; omega)
    · exact duties_later m _ r hr) $$ [Hv0] with Hzv0
  · isplitr
    · iexact Hr
    · iexact Hv0
  imod (close_set m K c (rangeSet 8 0 c.val) (fun i => some (true, i)) 1 fun i _ => duties_later m _) $$ [Hv1] with Hzv1
  · isplitr
    · iexact Hr
    · iexact Hv1
  imodintro
  isplitl [Hzb]; · iexact Hzb
  isplitl [Hzs0 Hzs1]
  · rw [← rangeSet_univ, bigSep_rangeSet_split (Nat.zero_le (c.val + 1)) (show c.val + 1 ≤ 8 from c.isLt)]
    isplitl [Hzs0] <;> iassumption
  · rw [← rangeSet_univ, bigSep_rangeSet_split (Nat.zero_le c.val) (Nat.le_of_lt c.isLt)]
    isplitl [Hzv1] <;> iassumption

/-! ## Into the body and out of it -/

/-- The whole buffer, back from the slots as the body leaves them. -/
theorem buffer_back (c : Dev nD) :
    iprop((bigSep (rangeSet 8 0 c.val) fun o => slotPts c o fullShare (kvT m))
        ∗ (bigSep (rangeSet 8 (c.val + 1) 8) fun i => slotPts c c (qS i) (kvT m))
        ∗ ownRest m c ∗ slotPts c c fullShare.left (kvT m)
        ∗ bigSep (rangeSet 8 (c.val + 1) 8) fun i => slotPts c i fullShare (kvAt m c))
      ⊢ (kvLoc c ↦{fullShare} kvAt m c : sProp 𝕄) := by
  rw [kv_slots, kv_three c]
  have low : (bigSep (rangeSet 8 0 c.val) fun o => slotPts (F := F) c o fullShare (kvT m))
      = bigSep (rangeSet 8 0 c.val) fun o => slotPts c o fullShare (kvAt m c) :=
    bigSep_congr fun o ho => kv_own m c o (Nat.le_of_lt ((mem_rangeSet _ _ _).1 ho).2) fullShare
  rw [low, ← kv_own m c c (le_refl _), own_split]
  iintro ⟨H0, Hq, Hr, Hl, H1⟩
  isplitl [H0]; · iexact H0
  isplitr [H1]
  · isplitl [Hl]; · iexact Hl
    isplitl [Hr] <;> iassumption
  iexact H1

/-- What the launch hands device `c` is what its body starts from, and the cells that it leaves alone. -/
theorem body_in (c : Dev nD) :
    iprop(linear c ∗ cred (tallyAt (barCell c) () (7 - c.val)) ∗ (bigSep (rangeSet 8 0 c.val) fun o => cred (tallyAt (recvCell c o) () N))
        ∗ (∃ f, kvLoc c ↦{fullShare} f) ∗ owesE c (O₀ c))
      ⊢ (iprop(bodyStart c ∗ idle c) : sProp 𝕄) := by
  unfold linear payToks bodyStart stA idle
  rw [kx_split, bigSep_sep' (rangeSet 8 0 c.val), bigSep_sep' (rangeSet 8 0 c.val),
    ← rangeSet_univ (NB := 8)]
  rw [bigSep_rangeSet_split (Φ := fun i : Fin 8 => atPos ER (sendCell c i) 0 ∅ 0) (Nat.zero_le (c.val + 1)) (show c.val + 1 ≤ 8 from c.isLt),
    bigSep_rangeSet_split (Φ := fun i : Fin 8 => atPos ER (recvCell c i) 0 ∅ 0) (Nat.zero_le c.val) (Nat.le_of_lt c.isLt)]
  iintro ⟨⟨⟨HaB, ⟨HaS0, HaS1⟩, HaR0, HaR1⟩, HtB, HtP⟩, HcB, HcR, ⟨%f, Hkv⟩, HO⟩
  ihave Hkv' := (Entails.of_eq ((kv_slots c fullShare f).trans (kv_three c _))) $$ Hkv
  icases Hkv' with ⟨Hk0, Hk, Hk1⟩
  have ex (S : Finset (Fin 8)) : (bigSep S fun i => slotPts c i fullShare f) ⊢ (bigSep S fun i => iprop(∃ f, slotPts c i fullShare f) : sProp 𝕄) :=
    bigSep_mono fun i _ => show slotPts c i fullShare f ⊢ (iprop(∃ f, slotPts c i fullShare f) : sProp 𝕄) from by iintro H; iexists f; iexact H
  isplitr [HaS0 HaR1]
  · isplitl [HO HtB Hk0]
    · isplitl [HO]; · iexact HO
      isplitl [HtB]; · iexact HtB
      iapply (ex _) $$ Hk0
    isplitl [HcB]; · iexact HcB
    isplitl [HaB]; · iexact HaB
    isplitl [Hk]; · iexists f; iexact Hk
    isplitl [Hk1]; · iapply (ex _) $$ Hk1
    isplitl [HtP]; · iexact HtP
    isplitl [HcR HaR0]
    · isplitl [HcR] <;> iassumption
    iexact HaS1
  · isplitl [HaS0] <;> iassumption

/-- What the body leaves, with the cells that it left alone, is what the device ends with. -/
theorem body_out (c : Dev nD) :
    iprop(records m K ∗ bodyEnd m c ∗ idle c) ⊢ |={Set.univ}=> iprop(Φ₁ (F := F) c ∗ owesE c 0) := by
  unfold bodyEnd gotten copied Φ₁
  rw [bigSep_sep', bigSep_sep']
  iintro ⟨#Hr, ⟨HO, HaB, ⟨Hg, HaR⟩, ⟨Hq, HaS⟩, Hrest, Hl, Hz⟩, Hi⟩
  imod (close_all m K c) $$ [Hi HaB HaR HaS] with Hsem
  · isplitr; · iexact Hr
    isplitl [Hi]; · iexact Hi
    isplitl [HaB]; · iexact HaB
    isplitl [HaR] <;> iassumption
  imodintro
  isplitr [HO]
  · isplitr [Hsem]
    · iexists (kvAt m c)
      iapply (buffer_back m c)
      isplitl [Hg]; · iexact Hg
      isplitl [Hq]; · iexact Hq
      isplitl [Hrest]; · iexact Hrest
      isplitl [Hl] <;> iassumption
    · iexact Hsem
  · iexact HO

/-- A staging buffer held whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem fupd_post (c : Dev nD) {α : Type} (p : Prog (TpuEff nD τ sig (Elt F) Λ₀ .tc) α) (Q : α → sProp 𝕄) :
    WP c p (fun a => iprop(|={Set.univ}=> Q a)) ⊢ WP c p Q := wp_fupd _ _ _ p Q

/-- What the point leaves: the buffer and the cells, no debts, the inputs as staged and the output computed. -/
def bodyPost (c : Dev nD) : sProp 𝕄 :=
  iprop(Φ₁ (F := F) c ∗ (dats m ρ 0 c).owesAt () t0_0.succ
    ∗ stg c cc0_stg0_0 (inX m c) ∗ stg c cc0_stg1_0 (inWq m c) ∗ stg c cc0_stg2_0 (inK m c) ∗ stg c cc0_stg3_0 (inV m c)
    ∗ stg c cc0_stg4_0 (inWo m c) ∗ stg c cc0_stg5_0 (outAt m c))

/-- What the point finds: every input block staged. -/
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

theorem before0 (c : Dev nD) (d) : (dats m ρ 0 c).before (0 : Fin 6) t0_0 d = inX m c := by
  unfold Dat.before; rw [if_pos (fetch0_0 t0_0)]; rfl
theorem before1 (c : Dev nD) (d) : (dats m ρ 0 c).before (1 : Fin 6) t0_0 d = inWq m c := by
  unfold Dat.before; rw [if_pos (fetch0_1 t0_0)]; rfl
theorem before2 (c : Dev nD) (d) : (dats m ρ 0 c).before (2 : Fin 6) t0_0 d = inK m c := by
  unfold Dat.before; rw [if_pos (fetch0_2 t0_0)]; rfl
theorem before3 (c : Dev nD) (d) : (dats m ρ 0 c).before (3 : Fin 6) t0_0 d = inV m c := by
  unfold Dat.before; rw [if_pos (fetch0_3 t0_0)]; rfl
theorem before4 (c : Dev nD) (d) : (dats m ρ 0 c).before (4 : Fin 6) t0_0 d = inWo m c := by
  unfold Dat.before; rw [if_pos (fetch0_4 t0_0)]; rfl

set_option maxHeartbeats 1000000 in
/-- The body from `bodyPre` to `bodyPost`. -/
theorem sound_body (c : Dev nD) :
    bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) (fun _ => bodyPost m ρ c) := by
  unfold bodyPre Φ₀ start
  simp only [before0, before1, before2, before3, before4]
  iintro ⟨⟨⟨⟨%K, #Hr, Hlin⟩, HcB, HcR⟩, Hkv⟩, Ho, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩⟩
  subst h0 h1 h2 h3 h4
  unfold Dat.owesAt Pipeline.owesWithin
  icases Ho with ⟨%W, %hW, HO⟩
  ihave Hin := (body_in (F := F) c) $$ [Hlin HcB HcR Hkv HO]
  · isplitl [Hlin]; · iexact Hlin
    isplitl [HcB]; · iexact HcB
    isplitl [HcR]; · iexact HcR
    isplitl [Hkv]; · iexact Hkv
    unfold owesE
    iexists W
    iexact HO
  icases Hin with ⟨Hs, Hi⟩
  iapply (fupd_post c _ _)
  iapply (run_body m K c g5 fun _ => iprop(|={Set.univ}=> bodyPost m ρ c)) $$ [Hs H0 H1 H2 H3 H4 H5]
  · isplitr; · iexact Hr
    isplitl [Hs]; · iexact Hs
    isplitr [H5]
    · unfold inputs stgPts
      isplitl [H0]; · iexact H0
      isplitl [H1]; · iexact H1
      isplitl [H2]; · iexact H2
      isplitl [H3] <;> iassumption
    · unfold stgPts; iexact H5
  iintro ⟨He, Hinp, H5⟩
  imod (body_out m K c) $$ [He Hi] with ⟨HΦ, HO⟩
  · isplitr; · iexact Hr
    isplitl [He] <;> iassumption
  imodintro
  unfold bodyPost Dat.owesAt Pipeline.owesWithin inputs stgPts owesE
  icases Hinp with ⟨H0, H1, H2, H3, H4⟩
  icases HO with ⟨%W', HO⟩
  rw [show (dats m ρ 0 c).owed t0_0.succ = 0 from rfl]
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem fin_N (t : Fin cfg0.N) : t = t0_0 := fin_N0 t

set_option maxRecDepth 4000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The run -/

theorem ownSemFacts : Pipeline.OwnSemFacts cfg0.spec osem := by decide

theorem share_eq (c : Dev nD) (w : Fin cfg0.W) : (dats m ρ 0 c).share w = fullShare := by unfold Dat.share; split <;> rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨⟨%f, Hr⟩, Hu, Ho⟩
  isplitl [Hu]; · iexact Hu
  isplitl [Ho]; · iexact Ho
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What each window's array holds when the program ends. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, for any float values, from any memory with zero counters: every weakly fair execution of the
    program terminates, with every device's result array at the computed contents and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.Result.lean ====
/-
  The run read at the program's own arrays: the arguments unchanged and the result computed, on every device.
-/
module

public import proofs.«01_k».proof.Proof.Launch
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! A window's one block is its whole array, in place. -/

theorem index0 : ∀ a, win0_0.index t0_0 a = 0 := by decide +kernel
theorem emb0 (j : S2x128x512.Idx) : (win0_0.blk t0_0).view.emb j = j := by
  funext a; apply Fin.ext; fin_cases a <;> (blk_simp; rw [index0, Nat.zero_mul, Nat.zero_add])
theorem index1 : ∀ a, win0_1.index t0_0 a = 0 := by decide +kernel
theorem emb1 (j : S512x256.Idx) : (win0_1.blk t0_0).view.emb j = j := by
  funext a; apply Fin.ext; fin_cases a <;> (blk_simp; rw [index1, Nat.zero_mul, Nat.zero_add])
theorem index2 : ∀ a, win0_2.index t0_0 a = 0 := by decide +kernel
theorem emb2 (j : S2x128x4x64.Idx) : (win0_2.blk t0_0).view.emb j = j := by
  funext a; apply Fin.ext; fin_cases a <;> (blk_simp; rw [index2, Nat.zero_mul, Nat.zero_add])
theorem index3 : ∀ a, win0_3.index t0_0 a = 0 := by decide +kernel
theorem emb3 (j : S2x128x4x64.Idx) : (win0_3.blk t0_0).view.emb j = j := by
  funext a; apply Fin.ext; fin_cases a <;> (blk_simp; rw [index3, Nat.zero_mul, Nat.zero_add])
theorem index4 : ∀ a, win0_4.index t0_0 a = 0 := by decide +kernel
theorem emb4 (j : S256x512.Idx) : (win0_4.blk t0_0).view.emb j = j := by
  funext a; apply Fin.ext; fin_cases a <;> (blk_simp; rw [index4, Nat.zero_mul, Nat.zero_add])
theorem index5 : ∀ a, win0_5.index t0_0 a = 0 := by decide +kernel
theorem emb5 (j : S2x128x512.Idx) : (win0_5.blk t0_0).view.emb j = j := by
  funext a; apply Fin.ext; fin_cases a <;> (blk_simp; rw [index5, Nat.zero_mul, Nat.zero_add])

/-- A window's block is its whole array: what is staged is the argument. -/
theorem inX_eq (c : Dev nD) : inX m c = m ((c : Thread nD τ).loc main_arg0) := by
  funext j; unfold inX iblk; blk_simp; rw [emb0]
theorem inWq_eq (c : Dev nD) : inWq m c = m ((c : Thread nD τ).loc main_arg1) := by
  funext j; unfold inWq iblk; blk_simp; rw [emb1]
theorem inK_eq (c : Dev nD) : inK m c = m ((c : Thread nD τ).loc main_arg2) := by
  funext j; unfold inK iblk; blk_simp; rw [emb2]
theorem inV_eq (c : Dev nD) : inV m c = m ((c : Thread nD τ).loc main_arg3) := by
  funext j; unfold inV iblk; blk_simp; rw [emb3]
theorem inWo_eq (c : Dev nD) : inWo m c = m ((c : Thread nD τ).loc main_arg4) := by
  funext j; unfold inWo iblk; blk_simp; rw [emb4]

/-- The result array ends at what the body computes. -/
theorem out_arr (c : Dev nD) : finalA m ρ c (5 : Fin 6) = outAt m c := by
  unfold finalA
  refine (dats m ρ 0 c).arrAt_eq_of_covers 5 _ (by decide +kernel) fun t hf y => ?_
  blk_simp
  rw [fin_N t]
  exact congrArg (outAt m c) (emb5 y).symm

/-- The program's run: every device's result is what its body computes, its arguments are unchanged, and every
    counter is back at zero. -/
theorem run_result : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c 5).trans (out_arr m ρ c),
    (h.1 c 0).trans ((dats (F := F) m ρ 0 c).arrAt_in (0 : Fin 6) rfl _),
    (h.1 c 1).trans ((dats (F := F) m ρ 0 c).arrAt_in (1 : Fin 6) rfl _),
    (h.1 c 2).trans ((dats (F := F) m ρ 0 c).arrAt_in (2 : Fin 6) rfl _),
    (h.1 c 3).trans ((dats (F := F) m ρ 0 c).arrAt_in (3 : Fin 6) rfl _),
    (h.1 c 4).trans ((dats (F := F) m ρ 0 c).arrAt_in (4 : Fin 6) rfl _)⟩, h.2⟩) (run_main m ρ)

end Cert.KernelIdeal.Run

end
-- ==== Proof.Plain.lean ====
/-
  The kernel as printed and its idealization are one text but for the named constants. Read at any float values,
  with each name standing for its own literal, the two are the same program, so the run of one is the run of the other.
-/
module

public import proofs.«01_k».proof.Proof.Result
public import proofs.«01_k».proof.Proof.Gen.Kernel
public import Idealize.ShloMosaic.PureOps.BitExact

@[expose] public section

set_option maxRecDepth 16384

noncomputable section

namespace Cert.Plain

open Idealize.ShloMosaic Idealize.ShloMosaic.TcCoe Idealize.SL.Sem

/-- Every name stands for its own literal. -/
abbrev literal (F : FTy → Type) [FloatOps F] : Named F where
  named _ _ {φ} bits := FloatOps.ofBits φ bits

variable {F : FTy → Type} [FloatOps F]

/-- The two bodies are one program. -/
theorem body_eq : @Cert.KernelIdeal.cc0_body F _ (literal F) Cert.KernelIdeal.Gen.facts
    = @Cert.Kernel.cc0_body F _ Cert.Kernel.Gen.facts := rfl

/-- So are the two body tables: one label, the body at its staging buffers. -/
theorem defs₀_eq : @Cert.KernelIdeal.defs₀ F _ (literal F) Cert.KernelIdeal.Gen.facts
    = @Cert.Kernel.defs₀ F _ Cert.Kernel.Gen.facts := by
  funext p l a
  rcases p with _ | _ | _
  · match l, a with
    | 0, (t, s) => rfl
  · rfl
  · rfl

/-- And the tables with the pipeline's labels adjoined. -/
theorem defs_eq : @Cert.KernelIdeal.defs F _ (literal F) Cert.KernelIdeal.Gen.facts
    = @Cert.Kernel.defs F _ Cert.Kernel.Gen.facts :=
  congrArg (Pipeline.defs (@Cert.Kernel.pcfgs F Cert.Kernel.Gen.facts)) defs₀_eq

/-- And the programs of a device. -/
theorem main_eq : @Cert.KernelIdeal.main F Cert.KernelIdeal.Gen.facts
    = @Cert.Kernel.main F Cert.Kernel.Gen.facts := rfl

open Cert.Kernel in
/-- From any memory the kernel as printed ends, its arguments unchanged and every semaphore at zero. -/
theorem run_plain (m : (ℓ : Loc nD τ sig) → Buf (Elt F) ℓ) (ρ : Dev nD → PrngReg) :
    θ_run (@Cert.Kernel.defs F _ Cert.Kernel.Gen.facts) (onTc (τ := τ) (@Cert.Kernel.main F Cert.Kernel.Gen.facts)) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  have h := @Cert.KernelIdeal.Run.run_result F _ (literal F) m ρ
  rw [defs_eq, main_eq] at h
  exact (θ_run _ _ _).mono (fun r h => ⟨fun c => (h.1 c).2, h.2⟩) h

end Cert.Plain

end
-- ==== Proof.Frames.lean ====
/-
  The frames of the three programs and the step from the kernel as printed to its idealization.
-/
module

public import proofs.«01_k».proof.Defs
public import proofs.«01_k».proof.Proof.Plain
public import proofs.«01_k».proof.Proof.Gen.ReferenceIdeal
public import proofs.«01_k».proof.Proof.Gen.ReferenceIdeal.Run

@[expose] public section

noncomputable section

namespace Cert.Frames

open Idealize.ShloMosaic Idealize.SL.Sem

/-- The kernel as printed ends from any memory, its arguments unchanged and every semaphore at zero. -/
theorem kernel : quiescent_Kernel (hKernel := Cert.Kernel.Gen.facts) :=
  fun m g _ => Cert.Plain.run_plain m g

/-- So does the idealized kernel. -/
theorem kernelIdeal : quiescent_KernelIdeal (hKernelIdeal := Cert.KernelIdeal.Gen.facts) :=
  fun m g _ => (θ_run _ _ _).mono (fun _ h => ⟨fun c => (h.1 c).2, h.2⟩) (Cert.KernelIdeal.Run.run_result m g)

/-- So does the reference, which has no semaphore. -/
theorem referenceIdeal : quiescent_ReferenceIdeal (hReferenceIdeal := Cert.ReferenceIdeal.Gen.facts) :=
  fun m g _ => (θ_run _ _ _).mono
    (fun r h => ⟨fun c => (h c).2, sem_eq_zero_of_no_sems (by decide) r.2⟩) (Cert.ReferenceIdeal.Value.run (F := Ideal) m g)

/-- Each named constant is what its name says, and the idealization replaced nothing else. -/
theorem preserves : preserves_Kernel_KernelIdeal :=
  ⟨IdealRules.named_const.statement Cert.KernelIdeal.κ "scale" .bf16 0x41E2#16 ((254 / 9 : ℝ) : EReal) rfl,
    IdealRules.named_const.statement Cert.KernelIdeal.κ "score_scale" .f32 0x3B912245#32 ((9 / 2032 : ℝ) : EReal) rfl,
    IdealRules.named_const.statement Cert.KernelIdeal.κ "inv_scale" .f32 0x3D112245#32 ((9 / 254 : ℝ) : EReal) rfl⟩

end Cert.Frames

end
-- ==== Proof.Heads.lean ====
/-
  The kernel's arithmetic of one batch, read at an element: the eight heads (four of each batch) are one function of the
  places that their slices start at, and that function is read once.
-/
module

public import proofs.«01_k».proof.Proof.Parts4
public import Idealize.ShloMosaic.Lib.Pipeline.ValueKit
public import Idealize.ShloMosaic.Lib.MatmulPlain
public import Idealize.ShloMosaic.PureOps.Ideal.Laws

@[expose] public section

set_option maxRecDepth 16384

noncomputable section

namespace Cert.Value

open Cert.KernelIdeal Cert.KernelIdeal.Gen Cert.KernelIdeal.Run
open Idealize.ShloMosaic hiding ix1 ix2 ix3 ix4 ix5 eq_ix1 eq_ix2 eq_ix3 eq_ix4 eq_ix5
open Idealize.ShloMosaic.ValueIdx

section General

variable {F : FTy → Type} [FloatOps F] [Named F]

/-- A head's keys or values: the slice of the buffer that starts at `off`, one row for each position. -/
def rowsOf (off : Fin 5 → ℕ) (h : S8x2x2x128x256.Slices off S8x1x1x128x64) (g : IVec S8x2x2x128x256 8) : FVec F S1024x64 .bf16 :=
  shapeCast S1024x64 (shapeCast S8x128x64 (extractStridedSlice S8x1x1x128x64 off (k0_pay19 (F := F) g) h) shapeCasts_S8x1x1x128x64_S8x128x64)
    shapeCasts_S8x128x64_S1024x64

/-- A head's weights before they are divided by their sum: the exponential of the scaled product, zero where masked. -/
def weights (q : FVec F S128x256 .f32) (mk : FVec F S128x1024 .f32) (off : Fin 2 → ℕ) (h : S128x256.Slices off S128x64)
    (ks : FVec F S1024x64 .bf16) : FVec F S128x1024 .f32 :=
  mulf (exp (mulf (matmul dot_S128x64_S1024x64_S128x1024_1_1_0_0_n_n none (truncf .bf16 (extractStridedSlice S128x64 off q h) bitsLt_bf16_f32) ks
    (constant S128x1024 .f32 0x00000000#32)) (broadcast S128x1024 (Named.named κ "score_scale" 0x3B912245#32)))) mk

/-- A head's result: the values weighted, over the sum of the weights. -/
def headOf (w : FVec F S128x1024 .f32) (vs : FVec F S1024x64 .bf16) : FVec F S128x64 .f32 :=
  divf (matmul dot_S128x1024_S1024x64_S128x64_1_0_0_1_n_n none (truncf .bf16 w bitsLt_bf16_f32) vs (constant S128x64 .f32 0x00000000#32))
    (broadcastTo S128x64 (shapeCast S128x1 (multiReduction .add [1] S128 w 0x00000000#32 reduces_S128x1024_S128 (.inl rfl) rfl) shapeCasts_S128_S128x1)
      broadcasts_S128x1_S128x64)

/-- The four heads side by side, scaled back and sent through the output projection. -/
def finish (wo : FVec F S256x512 .bf16) (h0 h1 h2 h3 : FVec F S128x64 .f32) : FVec F S1x128x512 .f32 :=
  shapeCast S1x128x512 (matmul dot_S128x256_S256x512_S128x512_1_0_0_1_n_n none
    (truncf .bf16 (mulf (concatenate S128x256 1 [⟨S128x64, h0⟩, ⟨S128x64, h1⟩, ⟨S128x64, h2⟩, ⟨S128x64, h3⟩] concatenates_S128x64_S128x64_S128x64_S128x64_S128x256_d1)
      (broadcast S128x256 (Named.named κ "inv_scale" 0x3D112245#32))) bitsLt_bf16_f32) wo (constant S128x512 .f32 0x00000000#32))
    shapeCasts_S128x512_S1x128x512

/-- One head whole: head's columns start at `o`, the batch is `b`. -/
def head (q : FVec F S128x256 .f32) (mk : FVec F S128x1024 .f32) (g : IVec S8x2x2x128x256 8) (b o : ℕ)
    (hq : S128x256.Slices ![0, o] S128x64) (hk : S8x2x2x128x256.Slices ![0, 0, b, 0, o] S8x1x1x128x64)
    (hv : S8x2x2x128x256.Slices ![0, 1, b, 0, o] S8x1x1x128x64) : FVec F S128x64 .f32 :=
  headOf (weights q mk ![0, o] hq (rowsOf ![0, 0, b, 0, o] hk g)) (rowsOf ![0, 1, b, 0, o] hv g)

/-- The first batch's block is the four heads of batch 0. -/
theorem outBlk0_eq (mk : FVec F S128x1024 .f32) (wo : FVec F S256x512 .bf16) (q : FVec F S128x256 .f32) (g : IVec S8x2x2x128x256 8) :
    outBlk0 mk wo q g = finish wo
      (head q mk g 0 0 slices_S128x256_o0_0_S128x64 slices_S8x2x2x128x256_o0_0_0_0_0_S8x1x1x128x64 slices_S8x2x2x128x256_o0_1_0_0_0_S8x1x1x128x64)
      (head q mk g 0 64 slices_S128x256_o0_64_S128x64 slices_S8x2x2x128x256_o0_0_0_0_64_S8x1x1x128x64 slices_S8x2x2x128x256_o0_1_0_0_64_S8x1x1x128x64)
      (head q mk g 0 128 slices_S128x256_o0_128_S128x64 slices_S8x2x2x128x256_o0_0_0_0_128_S8x1x1x128x64 slices_S8x2x2x128x256_o0_1_0_0_128_S8x1x1x128x64)
      (head q mk g 0 192 slices_S128x256_o0_192_S128x64 slices_S8x2x2x128x256_o0_0_0_0_192_S8x1x1x128x64 slices_S8x2x2x128x256_o0_1_0_0_192_S8x1x1x128x64) := rfl

/-- The second batch's block is the four heads of batch 1. -/
theorem outBlk1_eq (mk : FVec F S128x1024 .f32) (wo : FVec F S256x512 .bf16) (q : FVec F S128x256 .f32) (g : IVec S8x2x2x128x256 8) :
    outBlk1 mk wo q g = finish wo
      (head q mk g 1 0 slices_S128x256_o0_0_S128x64 slices_S8x2x2x128x256_o0_0_1_0_0_S8x1x1x128x64 slices_S8x2x2x128x256_o0_1_1_0_0_S8x1x1x128x64)
      (head q mk g 1 64 slices_S128x256_o0_64_S128x64 slices_S8x2x2x128x256_o0_0_1_0_64_S8x1x1x128x64 slices_S8x2x2x128x256_o0_1_1_0_64_S8x1x1x128x64)
      (head q mk g 1 128 slices_S128x256_o0_128_S128x64 slices_S8x2x2x128x256_o0_0_1_0_128_S8x1x1x128x64 slices_S8x2x2x128x256_o0_1_1_0_128_S8x1x1x128x64)
      (head q mk g 1 192 slices_S128x256_o0_192_S128x64 slices_S8x2x2x128x256_o0_0_1_0_192_S8x1x1x128x64 slices_S8x2x2x128x256_o0_1_1_0_192_S8x1x1x128x64) := rfl

end General

/-! ## At the ideal instance -/

/-- Where position `k`'s element `e` lies in the buffer: `w` tells keys from values, `b` is the batch. -/
def place (w b : Fin 2) (k : Fin 1024) (e : Fin 256) : S8x2x2x128x256.Idx :=
  ix5 ⟨k.val / 128, by omega⟩ w b ⟨k.val % 128, by omega⟩ e

/-- A head's column among all the heads' columns. -/
def col (h : Fin 4) (d : Fin 64) : Fin 256 := ⟨64 * h.val + d.val, by omega⟩

theorem rowsOf_apply (w b : Fin 2) (h : Fin 4) (o : ℕ) (ho : o = 64 * h.val) (off : Fin 5 → ℕ) (hoff : off = ![0, w.val, b.val, 0, o])
    (hs : S8x2x2x128x256.Slices off S8x1x1x128x64) (g : IVec S8x2x2x128x256 8) (k : Fin 1024) (d : Fin 64) :
    rowsOf (F := Ideal) off hs g (ix2 k d) = (((g (place w b k (col h d))).toInt : ℝ) : EReal) := by
  subst ho hoff
  unfold rowsOf
  rw [shapeCast_apply _ _ _ (ix3 (⟨k.val / 128, by omega⟩ : Fin 8) (⟨k.val % 128, by omega⟩ : Fin 128) d)
      (by rw [Shape.rowMajor_val_three, Shape.rowMajor_val_two]; show (k.val / 128 * 128 + k.val % 128) * 64 + d.val = k.val * 64 + d.val; omega),
    shapeCast_apply _ _ _ (ix5 (⟨k.val / 128, by omega⟩ : Fin 8) (0 : Fin 1) (0 : Fin 1) (⟨k.val % 128, by omega⟩ : Fin 128) d)
      (by rw [Shape.rowMajor_val_five, Shape.rowMajor_val_three]
          show (((k.val / 128 * 1 + 0) * 1 + 0) * 128 + k.val % 128) * 64 + d.val = (k.val / 128 * 128 + k.val % 128) * 64 + d.val; omega),
    extractStridedSlice_apply _ _ _ _ (place w b k (col h d)) (fun a => by
      match a with
      | ⟨0, _⟩ => exact (Nat.zero_add _).symm
      | ⟨1, _⟩ => rfl
      | ⟨2, _⟩ => rfl
      | ⟨3, _⟩ => exact (Nat.zero_add _).symm
      | ⟨4, _⟩ => rfl)]
  rfl

theorem score_scale : Named.named (F := Ideal) (φ := .f32) κ "score_scale" 0x3B912245#32 = ((9 / 2032 : ℝ) : EReal) :=
  IdealRules.named_const.ideal_named_scalar _ _ _ _ rfl

theorem inv_scale : Named.named (F := Ideal) (φ := .f32) κ "inv_scale" 0x3D112245#32 = ((9 / 254 : ℝ) : EReal) :=
  IdealRules.named_const.ideal_named_scalar _ _ _ _ rfl

theorem scale : Named.named (F := Ideal) (φ := .bf16) κ "scale" 0x41E2#16 = ((254 / 9 : ℝ) : EReal) :=
  IdealRules.named_const.ideal_named_scalar _ _ _ _ rfl

theorem weights_apply (q : FVec Ideal S128x256 .f32) (mk : FVec Ideal S128x1024 .f32) (h : Fin 4) (o : ℕ) (ho : o = 64 * h.val)
    (hq : S128x256.Slices ![0, o] S128x64) (ks : FVec Ideal S1024x64 .bf16) (p : Fin 128) (k : Fin 1024) :
    weights q mk ![0, o] hq ks (ix2 p k)
      = Ideal.exp ((∑ d : Fin 64, q (ix2 p (col h d)) * ks (ix2 k d)) * ((9 / 2032 : ℝ) : EReal)) * mk (ix2 p k) := by
  subst ho
  have e : matmul dot_S128x64_S1024x64_S128x1024_1_1_0_0_n_n none (truncf .bf16 (extractStridedSlice S128x64 ![0, 64 * h.val] q hq) bitsLt_bf16_f32) ks
      (constant (F := Ideal) S128x1024 .f32 0x00000000#32) (ix2 p k) = ∑ d : Fin 64, q (ix2 p (col h d)) * ks (ix2 k d) := by
    refine (Ideal.matmul_transposedRhs_apply (M := 128) (K := 64) (N := 1024) none _ _ _ p k).trans ?_
    rw [constant_apply, show Ideal.ofBits .f32 0x00000000#32 = 0 from Ideal.ofBits_zero_f32, zero_add]
    refine Finset.sum_congr rfl fun d _ => ?_
    refine congrArg (· * ks (ix2 k d)) ?_
    exact extractStridedSlice_apply _ _ hq _ (ix2 p (col h d)) (fun a => by
      match a with
      | ⟨0, _⟩ => exact (Nat.zero_add _).symm
      | ⟨1, _⟩ => rfl)
  unfold weights
  show Ideal.exp (matmul dot_S128x64_S1024x64_S128x1024_1_1_0_0_n_n none (truncf .bf16 (extractStridedSlice S128x64 ![0, 64 * h.val] q hq) bitsLt_bf16_f32) ks
      (constant (F := Ideal) S128x1024 .f32 0x00000000#32) (ix2 p k) * Named.named (F := Ideal) (φ := .f32) κ "score_scale" 0x3B912245#32) * mk (ix2 p k) = _
  rw [e, score_scale]

theorem headOf_apply (w : FVec Ideal S128x1024 .f32) (vs : FVec Ideal S1024x64 .bf16) (p : Fin 128) (d : Fin 64) :
    headOf w vs (ix2 p d) = Ideal.div (∑ k : Fin 1024, w (ix2 p k) * vs (ix2 k d)) (∑ k : Fin 1024, w (ix2 p k)) := by
  have e1 : matmul dot_S128x1024_S1024x64_S128x64_1_0_0_1_n_n none (truncf .bf16 w bitsLt_bf16_f32) vs (constant (F := Ideal) S128x64 .f32 0x00000000#32) (ix2 p d)
      = ∑ k : Fin 1024, w (ix2 p k) * vs (ix2 k d) := by
    refine (Ideal.matmul_plain_apply (M := 128) (K := 1024) (N := 64) none _ _ _ p d).trans ?_
    rw [constant_apply, show Ideal.ofBits .f32 0x00000000#32 = 0 from Ideal.ofBits_zero_f32, zero_add]
    rfl
  have e2 : broadcastTo S128x64 (shapeCast S128x1 (multiReduction .add [1] S128 w 0x00000000#32 reduces_S128x1024_S128 (.inl rfl) rfl) shapeCasts_S128_S128x1)
      broadcasts_S128x1_S128x64 (ix2 p d) = ∑ k : Fin 1024, w (ix2 p k) := by
    rw [broadcastTo_apply _ _ _ (ix2 p (0 : Fin 1)) (fun a => by
        match a with
        | ⟨0, _⟩ => rfl
        | ⟨1, _⟩ => rfl),
      shapeCast_apply _ _ _ (ix1 p) (by rw [Shape.rowMajor_val_one, Shape.rowMajor_val_two]; show p.val = p.val * 1 + 0; omega)]
    refine (Ideal.multiReduction_add_single w _ _ _ _ (ix1 p)).trans ?_
    refine Finset.sum_congr rfl fun k _ => congrArg w ?_
    funext a
    match a with
    | ⟨0, _⟩ => rfl
    | ⟨1, _⟩ => rfl
  unfold headOf
  rw [divf_apply, e1, e2]

theorem finish_apply (wo : FVec Ideal S256x512 .bf16) (hd : Fin 4 → FVec Ideal S128x64 .f32) (p : Fin 128) (n : Fin 512) :
    finish wo (hd 0) (hd 1) (hd 2) (hd 3) (ix3 (0 : Fin 1) p n)
      = ∑ e : Fin 256, hd ⟨e.val / 64, by omega⟩ (ix2 p (⟨e.val % 64, by omega⟩ : Fin 64)) * ((9 / 254 : ℝ) : EReal) * wo (ix2 e n) := by
  unfold finish
  rw [shapeCast_apply _ _ _ (ix2 p n) (by
    rw [Shape.rowMajor_val_two, Shape.rowMajor_val_three]; show p.val * 512 + n.val = (0 * 128 + p.val) * 512 + n.val; omega)]
  refine (Ideal.matmul_plain_apply (M := 128) (K := 256) (N := 512) none _ _ _ p n).trans ?_
  rw [constant_apply, show Ideal.ofBits .f32 0x00000000#32 = 0 from Ideal.ofBits_zero_f32, zero_add]
  refine Finset.sum_congr rfl fun e _ => congrArg (· * wo (ix2 e n)) ?_
  rw [truncf_apply, mulf_apply, broadcast_apply, inv_scale]
  refine congrArg (· * _) ?_
  obtain ⟨h, hh⟩ : ∃ h : Fin 4, h = ⟨e.val / 64, by omega⟩ := ⟨_, rfl⟩
  have hv : h.val = e.val / 64 := congrArg Fin.val hh
  rw [← hh]
  refine concatenate_apply_piece (t := S128x256) 1 [⟨S128x64, hd 0⟩, ⟨S128x64, hd 1⟩, ⟨S128x64, hd 2⟩, ⟨S128x64, hd 3⟩]
    concatenates_S128x64_S128x64_S128x64_S128x64_S128x256_d1 (ix2 p e) h.val h.isLt S128x64 (hd h) ?_ rfl (64 * h.val) ?_
    (ix2 p (⟨e.val % 64, by omega⟩ : Fin 64)) ?_ ?_
  · clear hv hh; fin_cases h <;> rfl
  · clear hv hh; fin_cases h <;> rfl
  · intro b hb
    match b with
    | ⟨0, _⟩ => rfl
    | ⟨1, _⟩ => exact absurd rfl hb
  · show 64 * h.val + e.val % 64 = e.val; omega

end Cert.Value

end
-- ==== Proof.Softmax.lean ====
/-
  The two facts of arithmetic behind the kernel: a clipped, scaled and rounded number is an integer that eight bits hold, and
  attention whose weights are exponentials over their sum is the same with and without the maximum taken off first, with the
  quantiser's scale applied before or after.
-/
module

public import Idealize.ShloMosaic.PureOps.Ideal

@[expose] public section

noncomputable section

namespace Cert.Value

open Idealize.ShloMosaic

/-! ## The quantiser -/

/-- `t` held between −4.5 and 4.5. -/
def clip (t : EReal) : EReal := min ((9 / 2 : ℝ) : EReal) (max ((-(9 / 2) : ℝ) : EReal) t)

/-- What is clipped is a real number of magnitude 4.5 at most, whatever it was before. -/
theorem clip_real (t : EReal) : ∃ r : ℝ, clip t = (r : EReal) ∧ -(9 / 2) ≤ r ∧ r ≤ 9 / 2 := by
  have h1 : ((-(9 / 2) : ℝ) : EReal) ≤ clip t := le_min (EReal.coe_le_coe_iff.mpr (by norm_num)) (le_max_left _ _)
  have h2 : clip t ≤ ((9 / 2 : ℝ) : EReal) := min_le_left _ _
  generalize clip t = c at h1 h2
  induction c with
  | bot => exact absurd (le_bot_iff.mp h1) (EReal.coe_ne_bot _)
  | top => exact absurd (top_le_iff.mp h2) (EReal.coe_ne_top _)
  | coe r => exact ⟨r, rfl, EReal.coe_le_coe_iff.mp h1, EReal.coe_le_coe_iff.mp h2⟩

/-- The level that stands for `t`: the integer nearest to the clipped number times 254/9. -/
def level (t : EReal) : ℤ := Ideal.roundHalfEven ((clip t).toReal * (254 / 9))

/-- Rounding moves a number by half at most. -/
theorem round_near (r : ℝ) : r - 1 / 2 ≤ (Ideal.roundHalfEven r : ℝ) ∧ (Ideal.roundHalfEven r : ℝ) ≤ r + 1 / 2 := by
  have h1 := Int.floor_le r
  have h2 := Int.lt_floor_add_one r
  unfold Ideal.roundHalfEven
  simp only
  split_ifs with a b c <;> push_cast <;> constructor <;> linarith

/-- A level lies between −127 and 127. -/
theorem level_bound (t : EReal) : -127 ≤ level t ∧ level t ≤ 127 := by
  obtain ⟨r, hr, h1, h2⟩ := clip_real t
  have e : level t = Ideal.roundHalfEven (r * (254 / 9)) := by unfold level; rw [hr, EReal.toReal_coe]
  obtain ⟨n1, n2⟩ := round_near (r * (254 / 9))
  rw [← e] at n1 n2
  have b1 : (-128 : ℝ) < level t := by linarith
  have b2 : (level t : ℝ) < 128 := by linarith
  have c1 : (-128 : ℤ) < level t := by exact_mod_cast b1
  have c2 : level t < (128 : ℤ) := by exact_mod_cast b2
  omega

/-- What eight bits keep of the scaled and rounded number is the level. -/
theorem byte_level (t : EReal) :
    (Ideal.fptosi 8 (Ideal.liftRound Ideal.roundHalfEven (clip t * ((254 / 9 : ℝ) : EReal)))).toInt = level t := by
  obtain ⟨b1, b2⟩ := level_bound t
  obtain ⟨r, hr, -, -⟩ := clip_real t
  have e : Ideal.roundHalfEven (r * (254 / 9)) = level t := by unfold level; rw [hr, EReal.toReal_coe]
  rw [hr, ← EReal.coe_mul, Ideal.liftRound_coe, e]
  generalize level t = n at b1 b2
  have hn : (if (0 : ℝ) ≤ (n : ℝ) then ⌊(n : ℝ)⌋ else ⌈(n : ℝ)⌉) = n := by simp
  unfold Ideal.fptosi
  rw [Ideal.toIntClamped_coe, hn, BitVec.toInt_ofInt]
  have : max (-((2 ^ (8 - 1) : ℕ) : ℤ)) (min (((2 ^ (8 - 1) : ℕ) : ℤ) - 1) n) = n := by norm_num; omega
  rw [this]
  rw [Int.bmod_eq_of_le] <;> omega

/-- Scaled, rounded and scaled back, the clipped number is its level times 9/254. -/
theorem quantised_level (t : EReal) :
    Ideal.div (Ideal.liftRound Ideal.roundHalfEven (Ideal.div (clip t * ((127 : ℝ) : EReal)) ((9 / 2 : ℝ) : EReal)) * ((9 / 2 : ℝ) : EReal)) ((127 : ℝ) : EReal)
      = (((level t : ℝ) * (9 / 254) : ℝ) : EReal) := by
  obtain ⟨r, hr, -, -⟩ := clip_real t
  have e : Ideal.roundHalfEven (r * (254 / 9)) = level t := by unfold level; rw [hr, EReal.toReal_coe]
  rw [hr, Ideal.div_coe (by norm_num), Ideal.div_coe (by norm_num), ← EReal.coe_mul, ← EReal.coe_mul, Ideal.liftRound_coe,
    show r * 127 * (1 / (9 / 2)) = r * (254 / 9) by ring, e, ← EReal.coe_mul, ← EReal.coe_mul]
  congr 1; ring

/-! ## One row of attention -/

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section Row

variable {N D : ℕ} (S : Fin N → Prop) [DecidablePred S] (q : Fin D → ℝ) (kn : Fin N → Fin D → ℤ) (vn : Fin N → ℤ)

/-- The score of position `k`. -/
def score (k : Fin N) : ℝ := (∑ d, q d * (kn k d : ℝ)) * (9 / 2032)

/-- The weighted sum over the positions seen, over the sum of the weights, times the scale: what both sides come to. -/
def attended : ℝ :=
  (∑ k, if S k then Real.exp (score q kn k) * (vn k : ℝ) else 0) / (∑ k, if S k then Real.exp (score q kn k) else 0) * (9 / 254)

theorem sum_pos (hS : ∃ k, S k) (f : Fin N → ℝ) (hf : ∀ k, 0 < f k) : 0 < ∑ k, if S k then f k else 0 := by
  obtain ⟨k, hk⟩ := hS
  refine Finset.sum_pos' (fun i _ => by split_ifs; exacts [(hf i).le, le_rfl]) ⟨k, Finset.mem_univ k, by rw [if_pos hk]; exact hf k⟩

/-- The kernel's form: unnormalised weights, masked by a factor 0 or 1; what keys and values hold at positions not seen does
    not matter. -/
theorem kernel_row (hS : ∃ k, S k) (kn' : Fin N → Fin D → ℤ) (vn' : Fin N → ℤ) (hk : ∀ k, S k → kn' k = kn k) (hv : ∀ k, S k → vn' k = vn k) :
    Ideal.div
      (∑ k, Ideal.exp ((∑ d, (q d : EReal) * (((kn' k d : ℤ) : ℝ) : EReal)) * ((9 / 2032 : ℝ) : EReal)) * (if S k then 1 else 0) * (((vn' k : ℤ) : ℝ) : EReal))
      (∑ k, Ideal.exp ((∑ d, (q d : EReal) * (((kn' k d : ℤ) : ℝ) : EReal)) * ((9 / 2032 : ℝ) : EReal)) * (if S k then 1 else 0)) * ((9 / 254 : ℝ) : EReal)
      = (attended S q kn vn : EReal) := by
  have hw : ∀ k, Ideal.exp ((∑ d, (q d : EReal) * (((kn' k d : ℤ) : ℝ) : EReal)) * ((9 / 2032 : ℝ) : EReal)) * (if S k then 1 else 0)
      = ((if S k then Real.exp (score q kn k) else 0 : ℝ) : EReal) := by
    intro k
    by_cases h : S k
    · simp only [if_pos h, mul_one, ← EReal.coe_mul, ← coe_sum, Ideal.exp_coe, hk k h]; rfl
    · simp only [if_neg h, mul_zero, EReal.coe_zero]
  have hwv : ∀ k, ((if S k then Real.exp (score q kn k) else 0 : ℝ) : EReal) * (((vn' k : ℤ) : ℝ) : EReal)
      = ((if S k then Real.exp (score q kn k) * (vn k : ℝ) else 0 : ℝ) : EReal) := by
    intro k
    by_cases h : S k
    · rw [if_pos h, if_pos h, hv k h, EReal.coe_mul]
    · rw [if_neg h, if_neg h, EReal.coe_zero, zero_mul]
  simp only [hw, hwv]
  rw [← coe_sum, ← coe_sum, Ideal.div_coe (sum_pos S hS _ fun _ => Real.exp_pos _).ne', ← EReal.coe_mul, ← EReal.coe_mul]
  unfold attended
  congr 1; ring

/-- The plain form: masked scores are −∞, the greatest is taken off, the weights are divided by their sum, and keys and values
    are scaled back before they are used. -/
theorem plain_row (hS : ∃ k, S k) (sc : Fin N → EReal)
    (hsc : ∀ k, sc k = if S k then (∑ d, (q d : EReal) * ((((kn k d : ℤ) : ℝ) * (9 / 254) : ℝ) : EReal)) * ((1 / 8 : ℝ) : EReal) else ⊥)
    (M : EReal) (hM : M = (Finset.univ : Finset (Fin N)).fold max ⊥ sc) :
    ∑ k, ((((vn k : ℤ) : ℝ) * (9 / 254) : ℝ) : EReal) * Ideal.div (Ideal.exp (sc k - M)) (0 + ∑ k, Ideal.exp (sc k - M))
      = (attended S q kn vn : EReal) := by
  have hs : ∀ k, sc k = if S k then (score q kn k : EReal) else ⊥ := by
    intro k
    rw [hsc k]
    by_cases h : S k
    · rw [if_pos h, if_pos h]
      simp only [← EReal.coe_mul, ← coe_sum]
      unfold score
      congr 1
      rw [Finset.sum_mul, Finset.sum_mul]
      exact Finset.sum_congr rfl fun d _ => by ring
    · rw [if_neg h, if_neg h]
  obtain ⟨μ, hμ⟩ : ∃ μ : ℝ, M = (μ : EReal) := by
    obtain ⟨k0, h0⟩ := hS
    have lo : (score q kn k0 : EReal) ≤ M := by
      rw [hM, Finset.le_fold_max]; exact .inr ⟨k0, Finset.mem_univ _, by rw [hs k0, if_pos h0]⟩
    have hi : M < ⊤ := by
      rw [hM, Finset.fold_max_lt]
      refine ⟨bot_lt_top, fun k _ => ?_⟩
      rw [hs k]; split_ifs
      exacts [EReal.coe_lt_top _, bot_lt_top]
    clear hM
    induction M with
    | bot => exact absurd (le_bot_iff.mp lo) (EReal.coe_ne_bot _)
    | top => exact absurd hi (lt_irrefl _)
    | coe r => exact ⟨r, rfl⟩
  have hw : ∀ k, Ideal.exp (sc k - M) = ((if S k then Real.exp (score q kn k - μ) else 0 : ℝ) : EReal) := by
    intro k
    rw [hs k, hμ]
    by_cases h : S k
    · rw [if_pos h, if_pos h, ← EReal.coe_sub, Ideal.exp_coe]
    · rw [if_neg h, if_neg h, EReal.bot_sub, Ideal.exp_bot, EReal.coe_zero]
  have pos := sum_pos S hS (fun k => Real.exp (score q kn k - μ)) fun _ => Real.exp_pos _
  simp only [hw]
  rw [zero_add, ← coe_sum]
  simp only [Ideal.div_coe pos.ne', ← EReal.coe_mul]
  rw [← coe_sum]
  congr 1
  have f : ∀ k, Real.exp (score q kn k - μ) = Real.exp (score q kn k) * Real.exp (-μ) := fun k => by rw [← Real.exp_add]; rfl
  have e1 : (∑ k, if S k then Real.exp (score q kn k - μ) else 0) = (∑ k, if S k then Real.exp (score q kn k) else 0) * Real.exp (-μ) := by
    rw [Finset.sum_mul]
    exact Finset.sum_congr rfl fun k _ => by split_ifs; exacts [f k, (zero_mul _).symm]
  have pos' := sum_pos S hS (fun k => Real.exp (score q kn k)) fun _ => Real.exp_pos _
  have hne : Real.exp (-μ) ≠ 0 := (Real.exp_pos _).ne'
  unfold attended
  rw [e1]
  generalize hB : (∑ k, if S k then Real.exp (score q kn k) else 0) = B at pos'
  have hB0 : B ≠ 0 := pos'.ne'
  rw [Finset.sum_div, Finset.sum_mul]
  refine Finset.sum_congr rfl fun k _ => ?_
  by_cases h : S k
  · rw [if_pos h, if_pos h, f k]; field_simp
  · rw [if_neg h, if_neg h]; ring

end Row

end Cert.Value

end
-- ==== Proof.Reads.lean ====
/-
  What each device of the idealized kernel computes, read at an element of its result.
-/
module

public import proofs.«01_k».proof.Proof.Heads
public import proofs.«01_k».proof.Proof.Softmax
public import proofs.«01_k».proof.Proof.Body

@[expose] public section

set_option maxRecDepth 16384

noncomputable section

namespace Cert.Value

open Cert.KernelIdeal Cert.KernelIdeal.Gen Cert.KernelIdeal.Run
open Idealize.ShloMosaic hiding ix1 ix2 ix3 ix4 ix5 eq_ix1 eq_ix2 eq_ix3 eq_ix4 eq_ix5
open Idealize.ShloMosaic.ValueIdx

/-! ## The mask -/

/-- Division by 64 rounded down, as the kernel writes it with a division that rounds toward zero. -/
def blockOf (a : BitVec 32) : BitVec 32 :=
  Scalar.select
    (IntOp.andi
      (IntOp.cmpi .ne (IntOp.subi ((IntOp.cmpi .sgt a 0#32).setWidth 32) ((IntOp.cmpi .slt a 0#32).setWidth 32))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32) (IntOp.divsi .vector a 64#32)

theorem blockOf_nat : ∀ n : Fin 1024, blockOf (BitVec.ofNat 32 n.val) = BitVec.ofNat 32 (n.val / 64) := by decide +kernel

/-- Comparison of blocks: the query's block is its own on the device, plus two for each device before. -/
theorem sees : ∀ (c : Fin 8) (a : Fin 2) (b : Fin 16),
    ((IntOp.cmpi .sle (BitVec.ofNat 32 b.val) (IntOp.addi (BitVec.ofNat 32 a.val) (Scalar.muli (myId c) 2#32))).setWidth 32).toInt
      = if b.val ≤ 2 * c.val + a.val then 1 else 0 := by decide +kernel

/-- Which positions query `p` of device `c` sees: those of its own block of 64 and of the blocks before. -/
def Sees (c : Fin 8) (p : Fin 128) (k : Fin 1024) : Prop := k.val / 64 ≤ 2 * c.val + p.val / 64

instance (c : Fin 8) (p : Fin 128) : DecidablePred (Sees c p) := fun k => inferInstanceAs (Decidable (_ ≤ _))

theorem maskOf_apply (c : Dev nD) (p : Fin 128) (k : Fin 1024) : maskOf (F := Ideal) c (ix2 p k) = if Sees c p k then 1 else 0 := by
  have e : maskOf (F := Ideal) c (ix2 p k)
      = ((((IntOp.cmpi .sle (blockOf (BitVec.ofNat 32 k.val)) (IntOp.addi (blockOf (BitVec.ofNat 32 p.val)) (Scalar.muli (myId c) 2#32))).setWidth 32).toInt : ℝ) : EReal) := by
    have i0 : iota .tc S128x1024 32 [0] iota_S128x1024_d0_w32 (ix2 p k) = BitVec.ofNat 32 p.val := by
      show BitVec.ofNat 32 (0 * 128 + p.val) = _; rw [Nat.zero_mul, Nat.zero_add]
    have i1 : iota .tc S128x1024 32 [1] iota_S128x1024_d1_w32 (ix2 p k) = BitVec.ofNat 32 k.val := by
      show BitVec.ofNat 32 (0 * 1024 + k.val) = _; rw [Nat.zero_mul, Nat.zero_add]
    rw [← i0, ← i1]; rfl
  have h0 := blockOf_nat ⟨p.val, by omega⟩
  have h1 := blockOf_nat k
  have h2 := sees c ⟨p.val / 64, by omega⟩ ⟨k.val / 64, by omega⟩
  simp only at h0 h1 h2
  rw [e, h0, h1, h2]
  by_cases h : Sees c p k
  · rw [if_pos h, if_pos (show k.val / 64 ≤ 2 * c.val + p.val / 64 from h)]; simp
  · rw [if_neg h, if_neg (show ¬ k.val / 64 ≤ 2 * c.val + p.val / 64 from h)]; simp

/-! ## The queries -/

theorem query_apply (wq : Vec Ideal S512x256 .bf16) (x : Vec Ideal S1x128x512 .bf16) (p : Fin 128) (e : Fin 256) :
    k0_pay14 wq x (ix2 p e) = ∑ j : Fin 512, x (ix3 (0 : Fin 1) p j) * wq (ix2 j e) := by
  unfold k0_pay14
  refine (Ideal.matmul_plain_apply (M := 128) (K := 512) (N := 256) none _ _ _ p e).trans ?_
  rw [constant_apply, show Ideal.ofBits .f32 0x00000000#32 = 0 from Ideal.ofBits_zero_f32, zero_add]
  refine Finset.sum_congr rfl fun j _ => ?_
  unfold k0_pay12
  rw [shapeCast_apply x _ _ (ix3 (0 : Fin 1) p j) (by
      rw [Shape.rowMajor_val_three, Shape.rowMajor_val_two]; show (0 * 128 + p.val) * 512 + j.val = p.val * 512 + j.val; omega),
    shapeCast_self]

/-- Both batches' queries are one function. -/
theorem query_same (wq : Vec Ideal S512x256 .bf16) (x : Vec Ideal S1x128x512 .bf16) : k0_pay15 wq x = k0_pay14 wq x := rfl

/-! ## The quantised keys and values -/

theorem four_half : Ideal.ofBits .f32 0x40900000#32 = ((9 / 2 : ℝ) : EReal) := by
  simp [Ideal.ofBits, Ideal.ieee]; rw [← EReal.coe_mul]; norm_num

theorem neg_four_half : Ideal.ofBits .f32 0xC0900000#32 = ((-(9 / 2) : ℝ) : EReal) := by
  simp [Ideal.ofBits, Ideal.ieee]; rw [← EReal.coe_mul]; norm_num

/-- The byte that stands for `t`. -/
def byte (t : EReal) : BitVec 8 := Ideal.fptosi 8 (Ideal.liftRound Ideal.roundHalfEven (clip t * ((254 / 9 : ℝ) : EReal)))

theorem flat_apply (x : Vec Ideal S2x128x4x64 .bf16) (b : Fin 2) (r : Fin 128) (e : Fin 256) :
    k0_pay1 x (ix3 b r e) = x (ix4 b r (⟨e.val / 64, by omega⟩ : Fin 4) (⟨e.val % 64, by omega⟩ : Fin 64)) := by
  unfold k0_pay1
  rw [shapeCast_self]
  exact shapeCast_apply x _ _ _ (by
    rw [Shape.rowMajor_val_four, Shape.rowMajor_val_three]
    show ((b.val * 128 + r.val) * 4 + e.val / 64) * 64 + e.val % 64 = (b.val * 128 + r.val) * 256 + e.val; omega)

theorem flat_same (x : Vec Ideal S2x128x4x64 .bf16) : k0_pay2 x = k0_pay1 x := rfl

/-- One array quantised. -/
def bytes (x : FVec Ideal S2x128x256 .bf16) : IVec S2x128x256 8 := fun i => byte (x i)

theorem pack_eq (x y : FVec Ideal S2x128x256 .bf16) :
    k0_pay3 x y (Scalar.ofBits .f32 0xC0900000#32)
      = shapeCast S1x2x2x128x256 (shapeCast S1x2x2x128x256
          (concatenate S2x2x128x256 0 [⟨S1x2x128x256, shapeCast S1x2x128x256 (bytes x) shapeCasts_S2x128x256_S1x2x128x256⟩,
            ⟨S1x2x128x256, shapeCast S1x2x128x256 (bytes y) shapeCasts_S2x128x256_S1x2x128x256⟩] concatenates_S1x2x128x256_S1x2x128x256_S2x2x128x256_d0)
          shapeCasts_S2x2x128x256_S1x2x2x128x256) shapeCasts_S1x2x2x128x256_S1x2x2x128x256 := by
  have h : ∀ z : FVec Ideal S2x128x256 .bf16, bytes z = fptosi 8 (roundeven (mulf
      (minimumf (broadcast S2x128x256 (Scalar.truncf .bf16 bitsLt_bf16_f32 (Scalar.ofBits (F := Ideal) .f32 0x40900000#32)))
        (maximumf (broadcast S2x128x256 (Scalar.truncf .bf16 bitsLt_bf16_f32 (Scalar.ofBits (F := Ideal) .f32 0xC0900000#32))) z))
      (broadcast S2x128x256 (Named.named (F := Ideal) (φ := .bf16) κ "scale" 0x41E2#16)))) := by
    intro z; funext i
    show byte (z i) = Ideal.fptosi 8 (Ideal.liftRound Ideal.roundHalfEven
      (min (Ideal.ofBits .f32 0x40900000#32) (max (Ideal.ofBits .f32 0xC0900000#32) (z i)) * Named.named (F := Ideal) (φ := .bf16) κ "scale" 0x41E2#16))
    rw [four_half, neg_four_half, scale]; rfl
  rw [h x, h y]; rfl

theorem pack_apply (x y : FVec Ideal S2x128x256 .bf16) (w b : Fin 2) (r : Fin 128) (e : Fin 256) :
    k0_pay3 x y (Scalar.ofBits .f32 0xC0900000#32) (ix5 (0 : Fin 1) w b r e) = byte (if w = 0 then x (ix3 b r e) else y (ix3 b r e)) := by
  rw [pack_eq, shapeCast_self, shapeCast_apply _ _ _ (ix4 w b r e) (by
    rw [Shape.rowMajor_val_four, Shape.rowMajor_val_five]
    show ((w.val * 2 + b.val) * 128 + r.val) * 256 + e.val = (((0 * 2 + w.val) * 2 + b.val) * 128 + r.val) * 256 + e.val; omega)]
  have hc : ∀ z : FVec Ideal S2x128x256 .bf16, shapeCast S1x2x128x256 (bytes z) shapeCasts_S2x128x256_S1x2x128x256 (ix4 (0 : Fin 1) b r e) = byte (z (ix3 b r e)) := by
    intro z
    exact shapeCast_apply (bytes z) _ _ (ix3 b r e) (by
      rw [Shape.rowMajor_val_three, Shape.rowMajor_val_four]
      show (b.val * 128 + r.val) * 256 + e.val = ((0 * 2 + b.val) * 128 + r.val) * 256 + e.val; omega)
  by_cases h : w = 0
  · subst h
    rw [if_pos rfl, ← hc x]
    exact concatenate_pair_apply_left (t := S2x2x128x256) (s₁ := S1x2x128x256) (s₂ := S1x2x128x256) 0 _ _ _ _ rfl (ix4 (0 : Fin 1) b r e) (fun a => by
      match a with
      | ⟨0, _⟩ => rfl
      | ⟨1, _⟩ => rfl
      | ⟨2, _⟩ => rfl
      | ⟨3, _⟩ => rfl)
  · obtain rfl : w = 1 := by omega
    rw [if_neg h, ← hc y]
    exact concatenate_pair_apply_right (t := S2x2x128x256) (s₁ := S1x2x128x256) (s₂ := S1x2x128x256) 0 _ _ _ _ rfl rfl (ix4 (0 : Fin 1) b r e) (fun a ha => by
      match a with
      | ⟨0, _⟩ => exact absurd rfl ha
      | ⟨1, _⟩ => rfl
      | ⟨2, _⟩ => rfl
      | ⟨3, _⟩ => rfl) rfl

variable (m : (ℓ : Loc nD τ sig) → Buf (Elt Ideal) ℓ)

/-- The device that position `k` lies on, and its place there. -/
def home (k : Fin 1024) : Dev nD := (⟨k.val / 128, by omega⟩ : Fin 8)
def local' (k : Fin 1024) : Fin 128 := ⟨k.val % 128, by omega⟩

/-- The level of a key or a value that device `c` has received. -/
theorem kvAt_level (c : Dev nD) (w b : Fin 2) (k : Fin 1024) (h : Fin 4) (d : Fin 64) (hk : k.val / 128 ≤ c.val) :
    (kvAt m c (place w b k (col h d))).toInt = level (if w = 0 then inK m (home k) (ix4 b (local' k) h d) else inV m (home k) (ix4 b (local' k) h d)) := by
  have hl : low (place w b k (col h d)) = ix5 (0 : Fin 1) w b (local' k) (col h d) := by
    funext a
    match a with
    | ⟨0, _⟩ => rfl
    | ⟨1, _⟩ => rfl
    | ⟨2, _⟩ => rfl
    | ⟨3, _⟩ => rfl
    | ⟨4, _⟩ => rfl
  have hf : ∀ z : Vec Ideal S2x128x4x64 .bf16, k0_pay1 z (ix3 b (local' k) (col h d)) = z (ix4 b (local' k) h d) := by
    intro z
    rw [flat_apply]
    refine congrArg z ?_
    have e1 : (col h d).val / 64 = h.val := by show (64 * h.val + d.val) / 64 = h.val; omega
    have e2 : (col h d).val % 64 = d.val := by show (64 * h.val + d.val) % 64 = d.val; omega
    simp only [e1, e2]
  have e : kvAt m c (place w b k (col h d)) = packed m (home k) (low (place w b k (col h d))) := if_pos hk
  rw [e, hl]
  unfold packed
  rw [pack_apply, flat_same, hf, hf]
  exact byte_level _

/-! ## The result -/

/-- The result of one batch at one element, from the queries `q`. -/
theorem block_apply (c : Dev nD) (b : Fin 2) (wo : FVec Ideal S256x512 .bf16) (q : FVec Ideal S128x256 .f32) (g : IVec S8x2x2x128x256 8)
    (hq : ∀ h : Fin 4, S128x256.Slices ![0, 64 * h.val] S128x64)
    (hk : ∀ h : Fin 4, S8x2x2x128x256.Slices ![0, 0, b.val, 0, 64 * h.val] S8x1x1x128x64)
    (hv : ∀ h : Fin 4, S8x2x2x128x256.Slices ![0, 1, b.val, 0, 64 * h.val] S8x1x1x128x64) (p : Fin 128) (n : Fin 512) :
    finish wo (head q (maskOf c) g b.val (64 * (0 : Fin 4).val) (hq 0) (hk 0) (hv 0)) (head q (maskOf c) g b.val (64 * (1 : Fin 4).val) (hq 1) (hk 1) (hv 1))
        (head q (maskOf c) g b.val (64 * (2 : Fin 4).val) (hq 2) (hk 2) (hv 2)) (head q (maskOf c) g b.val (64 * (3 : Fin 4).val) (hq 3) (hk 3) (hv 3))
        (ix3 (0 : Fin 1) p n)
      = ∑ e : Fin 256, Ideal.div
          (∑ k, Ideal.exp ((∑ d : Fin 64, q (ix2 p (col ⟨e.val / 64, by omega⟩ d)) * (((g (place 0 b k (col ⟨e.val / 64, by omega⟩ d))).toInt : ℝ) : EReal)) * ((9 / 2032 : ℝ) : EReal))
            * (if Sees c p k then 1 else 0) * (((g (place 1 b k (col ⟨e.val / 64, by omega⟩ ⟨e.val % 64, by omega⟩))).toInt : ℝ) : EReal))
          (∑ k, Ideal.exp ((∑ d : Fin 64, q (ix2 p (col ⟨e.val / 64, by omega⟩ d)) * (((g (place 0 b k (col ⟨e.val / 64, by omega⟩ d))).toInt : ℝ) : EReal)) * ((9 / 2032 : ℝ) : EReal))
            * (if Sees c p k then 1 else 0)) * ((9 / 254 : ℝ) : EReal) * wo (ix2 e n) := by
  refine (finish_apply wo (fun h => head q (maskOf c) g b.val (64 * h.val) (hq h) (hk h) (hv h)) p n).trans ?_
  refine Finset.sum_congr rfl fun e _ => ?_
  generalize (⟨e.val / 64, by omega⟩ : Fin 4) = h
  generalize (⟨e.val % 64, by omega⟩ : Fin 64) = d
  have hr : ∀ (k : Fin 1024) (d : Fin 64), rowsOf (F := Ideal) ![0, 0, b.val, 0, 64 * h.val] (hk h) g (ix2 k d) = (((g (place 0 b k (col h d))).toInt : ℝ) : EReal) :=
    fun k d => rowsOf_apply 0 b h _ rfl _ rfl (hk h) g k d
  have hw : ∀ k, weights q (maskOf c) ![0, 64 * h.val] (hq h) (rowsOf ![0, 0, b.val, 0, 64 * h.val] (hk h) g) (ix2 p k)
      = Ideal.exp ((∑ d : Fin 64, q (ix2 p (col h d)) * (((g (place 0 b k (col h d))).toInt : ℝ) : EReal)) * ((9 / 2032 : ℝ) : EReal)) * (if Sees c p k then 1 else 0) := by
    intro k
    rw [weights_apply q (maskOf c) h _ rfl, maskOf_apply]
    simp only [hr]
  have hx : ∀ k, rowsOf (F := Ideal) ![0, 1, b.val, 0, 64 * h.val] (hv h) g (ix2 k d) = (((g (place 1 b k (col h d))).toInt : ℝ) : EReal) :=
    fun k => rowsOf_apply 1 b h _ rfl _ rfl (hv h) g k d
  unfold head
  rw [headOf_apply]
  simp only [hw, hx]

end Cert.Value

end
-- ==== Proof.Rows.lean ====
/-
  The idealized kernel's result on a device whose queries are real: the row of attention, sent through the output projection.
-/
module

public import proofs.«01_k».proof.Proof.Reads

@[expose] public section

set_option maxRecDepth 16384

noncomputable section

namespace Cert.Value

open Cert.KernelIdeal Cert.KernelIdeal.Gen Cert.KernelIdeal.Run
open Idealize.ShloMosaic hiding ix1 ix2 ix3 ix4 ix5 eq_ix1 eq_ix2 eq_ix3 eq_ix4 eq_ix5
open Idealize.ShloMosaic.ValueIdx

variable (m : (ℓ : Loc nD τ sig) → Buf (Elt Ideal) ℓ)

/-- A position that a query of device `c` sees lies on `c` or on a device before it. -/
theorem seen_before (c : Fin 8) (p : Fin 128) (k : Fin 1024) (h : Sees c p k) : k.val / 128 ≤ c.val := by
  unfold Sees at h; omega

/-- A query sees the first position. -/
theorem sees_first (c : Fin 8) (p : Fin 128) : ∃ k, Sees c p k := ⟨0, Nat.zero_le _⟩

/-- The result of one batch at one element, from real queries `q`. -/
theorem batch_row (c : Dev nD) (b : Fin 2) (wo : FVec Ideal S256x512 .bf16) (qv : FVec Ideal S128x256 .f32) (q : Fin 128 → Fin 4 → Fin 64 → ℝ)
    (hqv : ∀ p h d, qv (ix2 p (col h d)) = (q p h d : EReal))
    (hq : ∀ h : Fin 4, S128x256.Slices ![0, 64 * h.val] S128x64)
    (hk : ∀ h : Fin 4, S8x2x2x128x256.Slices ![0, 0, b.val, 0, 64 * h.val] S8x1x1x128x64)
    (hv : ∀ h : Fin 4, S8x2x2x128x256.Slices ![0, 1, b.val, 0, 64 * h.val] S8x1x1x128x64) (p : Fin 128) (n : Fin 512) :
    finish wo (head qv (maskOf c) (kvAt m c) b.val (64 * (0 : Fin 4).val) (hq 0) (hk 0) (hv 0)) (head qv (maskOf c) (kvAt m c) b.val (64 * (1 : Fin 4).val) (hq 1) (hk 1) (hv 1))
        (head qv (maskOf c) (kvAt m c) b.val (64 * (2 : Fin 4).val) (hq 2) (hk 2) (hv 2)) (head qv (maskOf c) (kvAt m c) b.val (64 * (3 : Fin 4).val) (hq 3) (hk 3) (hv 3))
        (ix3 (0 : Fin 1) p n)
      = ∑ e : Fin 256, (attended (Sees c p) (q p ⟨e.val / 64, by omega⟩)
          (fun k d => level (inK m (home k) (ix4 b (local' k) (⟨e.val / 64, by omega⟩ : Fin 4) d)))
          (fun k => level (inV m (home k) (ix4 b (local' k) (⟨e.val / 64, by omega⟩ : Fin 4) (⟨e.val % 64, by omega⟩ : Fin 64)))) : EReal) * wo (ix2 e n) := by
  refine (block_apply c b wo qv (kvAt m c) hq hk hv p n).trans ?_
  refine Finset.sum_congr rfl fun e _ => congrArg (fun z : EReal => z * wo (ix2 e n)) ?_
  generalize (⟨e.val / 64, by omega⟩ : Fin 4) = h
  generalize (⟨e.val % 64, by omega⟩ : Fin 64) = d
  simp only [hqv]
  exact kernel_row (Sees c p) (q p h) (fun k d => level (inK m (home k) (ix4 b (local' k) h d))) (fun k => level (inV m (home k) (ix4 b (local' k) h d)))
    (sees_first c p) (fun k d => (kvAt m c (place 0 b k (col h d))).toInt) (fun k => (kvAt m c (place 1 b k (col h d))).toInt)
    (fun k hs => funext fun d => kvAt_level m c 0 b k h d (seen_before c p k hs))
    (fun k hs => kvAt_level m c 1 b k h d (seen_before c p k hs))

/-- The output projection reaches the second product as it is. -/
theorem project_same (w : FVec Ideal S256x512 .bf16) : k0_pay13 (F := Ideal) w = w := by
  funext j
  unfold k0_pay13
  rw [shapeCast_self]

/-- The result of device `c`, at query `p` of its own and column `n`. -/
theorem out_row (c : Dev nD) (q : Fin 2 → Fin 128 → Fin 4 → Fin 64 → ℝ)
    (hq : ∀ b p h d, ∑ j : Fin 512, inX m c (ix3 b p j) * inWq m c (ix2 j (col h d)) = (q b p h d : EReal)) (b : Fin 2) (p : Fin 128) (n : Fin 512) :
    outAt m c (ix3 b p n)
      = ∑ e : Fin 256, (attended (Sees c p) (q b p ⟨e.val / 64, by omega⟩)
          (fun k d => level (inK m (home k) (ix4 b (local' k) (⟨e.val / 64, by omega⟩ : Fin 4) d)))
          (fun k => level (inV m (home k) (ix4 b (local' k) (⟨e.val / 64, by omega⟩ : Fin 4) (⟨e.val % 64, by omega⟩ : Fin 64)))) : EReal)
          * inWo m c (ix2 e n) := by
  have hx : ∀ b : Fin 2, ∀ p h d, k0_pay14 (inWq m c) (xRow (inX m c) b) (ix2 p (col h d)) = (q b p h d : EReal) := by
    intro b p h d
    rw [query_apply, ← hq b p h d]
    refine Finset.sum_congr rfl fun j _ => ?_
    refine congrArg (fun z : EReal => z * inWq m c (ix2 j (col h d))) (congrArg (inX m c) ?_)
    funext a; fin_cases a <;> rfl
  have hi : ∀ b : Fin 2, inBlk (ix3 b p n) = ix3 (0 : Fin 1) p n := by
    intro b; funext a; fin_cases a <;> rfl
  unfold outAt outF
  rw [hi b, query_same, project_same]
  fin_cases b
  · refine (if_pos rfl).trans ?_
    rw [outBlk0_eq]
    exact batch_row m c 0 (inWo m c) _ (q 0) (hx 0) (by decide) (by decide) (by decide) p n
  · refine (if_neg (show ¬ (1 : Nat) = 0 by decide)).trans ?_
    rw [outBlk1_eq]
    exact batch_row m c 1 (inWo m c) _ (q 1) (hx 1) (by decide) (by decide) (by decide) p n

end Cert.Value

end
-- ==== Proof.Plainly.lean ====
/-
  The reference, read at an element of its result.
-/
module

public import proofs.«01_k».proof.Proof.Softmax
public import proofs.«01_k».proof.Proof.Gen.ReferenceIdeal
public import proofs.«01_k».proof.Proof.Gen.ReferenceIdeal.Read
public import Idealize.ShloMosaic.Lib.KernelVsHost
public import Idealize.ShloMosaic.Lib.Pipeline.ValueKit
public import Idealize.ShloMosaic.PureOps.Ideal.Laws

@[expose] public section

set_option maxRecDepth 16384

noncomputable section

namespace Cert.Value.Plainly

open Cert.ReferenceIdeal Cert.ReferenceIdeal.Gen Cert.ReferenceIdeal.Read
open Idealize.ShloMosaic hiding ix1 ix2 ix3 ix4 ix5 eq_ix1 eq_ix2 eq_ix3 eq_ix4 eq_ix5
open Idealize.ShloMosaic.ValueIdx

/-! ## Literals -/

theorem lit_four_half : Ideal.ofBits .f32 0x40900000#32 = ((9 / 2 : ℝ) : EReal) := by
  simp [Ideal.ofBits, Ideal.ieee]; rw [← EReal.coe_mul]; norm_num

theorem lit_neg_four_half : Ideal.ofBits .f32 0xC0900000#32 = ((-(9 / 2) : ℝ) : EReal) := by
  simp [Ideal.ofBits, Ideal.ieee]; rw [← EReal.coe_mul]; norm_num

theorem lit_levels : Ideal.ofBits .f32 0x42FE0000#32 = ((127 : ℝ) : EReal) := by
  simp [Ideal.ofBits, Ideal.ieee]; rw [← EReal.coe_mul]; norm_num

theorem lit_eighth : Ideal.ofBits .f32 0x3E000000#32 = ((1 / 8 : ℝ) : EReal) := by
  simp [Ideal.ofBits, Ideal.ieee]; rw [← EReal.coe_mul]; norm_num

theorem lit_bot : Ideal.ofBits .f32 0xFF800000#32 = ⊥ := by
  simp [Ideal.ofBits, Ideal.ieee]

/-! ## The mask -/

/-- Division by 64 rounded down, as the reference writes it with a division that rounds toward zero. -/
def blockOf (a : BitVec 32) : BitVec 32 :=
  Scalar.select
    (IntOp.andi
      (IntOp.cmpi .ne (if a = 0 then 0 else if a.msb then -1 else 1 : BitVec 32) (if (64#32) = 0 then 0 else if (64#32).msb then -1 else 1 : BitVec 32))
      (IntOp.cmpi .ne (IntOp.remsi .host a 64#32) 0#32))
    (IntOp.subi (IntOp.divsi .host a 64#32) 1#32) (IntOp.divsi .host a 64#32)

theorem blockOf_nat : ∀ n : Fin 1024, blockOf (BitVec.ofNat 32 n.val) = BitVec.ofNat 32 (n.val / 64) := by decide +kernel

theorem sees_bit : ∀ a b : Fin 16, IntOp.cmpi .sle (BitVec.ofNat 32 b.val) (BitVec.ofNat 32 a.val) = if b.val ≤ a.val then 1#1 else 0#1 := by decide +kernel

/-- Which positions query `i` sees: those of its own block of 64 and of the blocks before. -/
def Vis (i k : Fin 1024) : Prop := k.val / 64 ≤ i.val / 64

instance (i : Fin 1024) : DecidablePred (Vis i) := fun k => inferInstanceAs (Decidable (_ ≤ _))

theorem rowBlock (i : S1024.Idx) : val_main_v28 (F := Ideal) i = blockOf (BitVec.ofNat 32 (i 0).val) := rfl
theorem colBlock (i : S1024.Idx) : val_main_v31 (F := Ideal) i = blockOf (BitVec.ofNat 32 (i 0).val) := rfl

theorem mask_apply (i k : Fin 1024) : val_main_v35 (F := Ideal) (ix2 i k) = if Vis i k then 1#1 else 0#1 := by
  rw [val_main_v35_apply, val_main_v33_apply, val_main_v32_apply, val_main_v34_apply, val_main_v29_apply, rowBlock, colBlock]
  have h0 := blockOf_nat i
  have h1 := blockOf_nat k
  have h2 := sees_bit ⟨i.val / 64, by omega⟩ ⟨k.val / 64, by omega⟩
  simp only at h2
  show IntOp.cmpi .sle (blockOf (BitVec.ofNat 32 k.val)) (blockOf (BitVec.ofNat 32 i.val)) = _
  rw [h0, h1, h2]; rfl

/-- A disjunction of bits is 1 when one of them is. -/
theorem foldl_or {ι : Type} (f : ι → BitVec 1) (l : List ι) : ∀ r : BitVec 1, (r = 1#1 ∨ ∃ n ∈ l, f n = 1#1) → l.foldl (fun r n => IntOp.ori r (f n)) r = 1#1 := by
  induction l with
  | nil => intro r h; rcases h with h | ⟨n, hn, -⟩; exacts [h, absurd hn (List.not_mem_nil)]
  | cons a l ih =>
    intro r h
    rw [List.foldl_cons]
    refine ih _ ?_
    have hl : ∀ x : BitVec 1, IntOp.ori 1#1 x = 1#1 := by decide
    have hr : ∀ x : BitVec 1, IntOp.ori x 1#1 = 1#1 := by decide
    rcases h with rfl | ⟨n, hn, e⟩
    · exact .inl (hl _)
    · rcases List.mem_cons.mp hn with rfl | hn
      · rw [e]; exact .inl (hr _)
      · exact .inr ⟨n, hn, e⟩

/-- Every query sees something. -/
theorem keep_apply (i : S1024.Idx) : val_main_v46 (F := Ideal) i = 1#1 := by
  unfold val_main_v46 Host.reduce
  refine foldl_or _ _ _ (.inr ⟨S1024x1024.rowMajor (ix2 (i 0) (0 : Fin 1024)), ?_, ?_⟩)
  · rw [List.mem_filter]
    refine ⟨List.mem_finRange _, ?_⟩
    rw [decide_eq_true_eq, Equiv.symm_apply_apply]
    funext a; apply Fin.ext
    match a with
    | ⟨0, _⟩ => rfl
  · rw [Equiv.symm_apply_apply]
    refine (mask_apply (i 0) 0).trans (if_pos ?_)
    show 0 / 64 ≤ _
    exact Nat.zero_le _

/-! ## Queries, keys and values -/

variable (x0 : (⟨S2x1024x512, .bf16⟩ : BufTy).Contents (Elt Ideal)) (x1 : (⟨S512x256, .bf16⟩ : BufTy).Contents (Elt Ideal))
  (x2 x3 : (⟨S2x1024x4x64, .bf16⟩ : BufTy).Contents (Elt Ideal)) (x4 : (⟨S256x512, .bf16⟩ : BufTy).Contents (Elt Ideal))

/-- A head's column among all the heads' columns. -/
def col (h : Fin 4) (d : Fin 64) : Fin 256 := ⟨64 * h.val + d.val, by omega⟩

theorem query_apply (b : Fin 2) (i : Fin 1024) (h : Fin 4) (d : Fin 64) :
    val_main_v26 (F := Ideal) x0 x1 (ix4 b i h d) = ∑ j : Fin 512, x0 (ix3 b i j) * x1 (ix2 j (col h d)) := by
  have e : idx_main_v26 (ix4 b i h d) = ix3 b i (col h d) := by
    funext a; apply Fin.ext
    match a with
    | ⟨0, _⟩ => show (((b.val * 1024 + i.val) * 4 + h.val) * 64 + d.val) / 262144 = b.val; omega
    | ⟨1, _⟩ => show (((b.val * 1024 + i.val) * 4 + h.val) * 64 + d.val) / 256 % 1024 = i.val; omega
    | ⟨2, _⟩ => show (((b.val * 1024 + i.val) * 4 + h.val) * 64 + d.val) % 256 = 64 * h.val + d.val; omega
  rw [val_main_v26_apply, e, val_main_v25_apply]
  refine Finset.sum_congr rfl fun j _ => ?_
  have el : lidx_main_v25 (ix3 b i (col h d)) j = ix3 b i j := by funext a; fin_cases a <;> rfl
  have er : ridx_main_v25 (ix3 b i (col h d)) j = ix2 j (col h d) := by funext a; fin_cases a <;> rfl
  rw [el, er]; rfl

theorem key_apply (i : S2x1024x4x64.Idx) : val_main_v14 (F := Ideal) x2 i = (((level (x2 i) : ℝ) * (9 / 254) : ℝ) : EReal) := by
  rw [← quantised_level]
  show Ideal.div (Ideal.liftRound Ideal.roundHalfEven (Ideal.div
    (min (Ideal.ofBits .f32 0x40900000#32) (max (Ideal.ofBits .f32 0xC0900000#32) (x2 i)) * Ideal.ofBits .f32 0x42FE0000#32) (Ideal.ofBits .f32 0x40900000#32))
    * Ideal.ofBits .f32 0x40900000#32) (Ideal.ofBits .f32 0x42FE0000#32) = _
  rw [lit_four_half, lit_neg_four_half, lit_levels]; rfl

theorem value_apply (i : S2x1024x4x64.Idx) : val_main_v24 (F := Ideal) x3 i = (((level (x3 i) : ℝ) * (9 / 254) : ℝ) : EReal) :=
  key_apply x3 i

/-! ## Attention -/

theorem score_apply (b : Fin 2) (h : Fin 4) (i k : Fin 1024) :
    val_main_v40 (F := Ideal) x0 x1 x2 (ix4 b h i k) = if Vis i k then
      (∑ d : Fin 64, val_main_v26 (F := Ideal) x0 x1 (ix4 b i h d) * val_main_v14 (F := Ideal) x2 (ix4 b k h d)) * ((1 / 8 : ℝ) : EReal) else ⊥ := by
  have e1 : val_main_call6_v1 (F := Ideal) (ix4 b h i k) = val_main_v35 (F := Ideal) (ix2 i k) := by
    rw [val_main_call6_v1_apply, val_main_v39_apply]
    refine congrArg _ ?_
    funext a; fin_cases a <;> rfl
  have e2 : val_main_call6_v2 (F := Ideal) (ix4 b h i k) = (⊥ : EReal) := lit_bot
  have e3 : val_main_v38 (F := Ideal) x0 x1 x2 (ix4 b h i k)
      = (∑ d : Fin 64, val_main_v26 (F := Ideal) x0 x1 (ix4 b i h d) * val_main_v14 (F := Ideal) x2 (ix4 b k h d)) * ((1 / 8 : ℝ) : EReal) := by
    rw [val_main_v38_apply, val_main_v36_apply]
    have e4 : val_main_v37 (F := Ideal) (ix4 b h i k) = ((1 / 8 : ℝ) : EReal) := lit_eighth
    rw [e4]
    refine congrArg (fun z : EReal => z * ((1 / 8 : ℝ) : EReal)) (Finset.sum_congr rfl fun d _ => ?_)
    have el : lidx_main_v36 (ix4 b h i k) d = ix4 b i h d := by funext a; fin_cases a <;> rfl
    have er : ridx_main_v36 (ix4 b h i k) d = ix4 b k h d := by funext a; fin_cases a <;> rfl
    rw [el, er]
  rw [val_main_v40_apply, e1, e2, e3, mask_apply]
  unfold Scalar.select
  by_cases hv : Vis i k
  · simp only [if_pos hv]; exact if_pos rfl
  · simp only [if_neg hv]; exact if_neg (by decide)

theorem max_apply (b : Fin 2) (h : Fin 4) (i : Fin 1024) :
    val_main_v41 (F := Ideal) x0 x1 x2 (ix3 b h i) = (Finset.univ : Finset (Fin 1024)).fold max ⊥ fun k => val_main_v40 (F := Ideal) x0 x1 x2 (ix4 b h i k) := by
  unfold val_main_v41 val_main_cst_14
  generalize val_main_v40 (F := Ideal) x0 x1 x2 = y
  have hr : S2x4x1024x1024.Reduces [3] S2x4x1024 := ⟨rfl, by decide, reducesTo_S2x4x1024x1024_S2x4x1024_d3.2⟩
  refine (congrFun (hostReduce_maximumf_eq_multiReduction (F := Ideal) (φ := .f32) y 0xFF800000#32 reducesTo_S2x4x1024x1024_S2x4x1024_d3 h_S_ hr (.inl rfl) rfl) (ix3 b h i)).trans ?_
  refine (Ideal.multiReduction_maximumf_single y _ hr _ _ (ix3 b h i)).trans ?_
  have e : y ∘ hr.lift (ix3 b h i) = fun k : Fin 1024 => y (ix4 b h i k) := by
    funext k
    refine congrArg y ?_
    funext a; apply Fin.ext; fin_cases a <;> rfl
  rw [show (FloatOps.ofBits .f32 0xFF800000#32 : Ideal .f32) = (⊥ : EReal) from lit_bot]
  exact congrArg ((Finset.univ : Finset (Fin 1024)).fold max (⊥ : EReal)) e

theorem shifted_apply (b : Fin 2) (h : Fin 4) (i k : Fin 1024) :
    val_main_v45 (F := Ideal) x0 x1 x2 (ix4 b h i k)
      = Ideal.exp (val_main_v40 (F := Ideal) x0 x1 x2 (ix4 b h i k) - val_main_v41 (F := Ideal) x0 x1 x2 (ix3 b h i)) := by
  have e : val_main_v43 (F := Ideal) x0 x1 x2 (ix4 b h i k) = val_main_v41 (F := Ideal) x0 x1 x2 (ix3 b h i) := by
    rw [val_main_v43_apply, val_main_v42_apply]
    refine congrArg _ ?_
    funext a; fin_cases a <;> rfl
  rw [val_main_v45_apply, val_main_v44_apply, e]; rfl

theorem weight_apply (b : Fin 2) (h : Fin 4) (i k : Fin 1024) :
    val_main_v54 (F := Ideal) x0 x1 x2 (ix4 b h i k)
      = Ideal.div (val_main_v45 (F := Ideal) x0 x1 x2 (ix4 b h i k)) (0 + ∑ k : Fin 1024, val_main_v45 (F := Ideal) x0 x1 x2 (ix4 b h i k)) := by
  have e1 : val_main_call8_v1 (F := Ideal) (ix4 b h i k) = 1#1 := by
    rw [val_main_call8_v1_apply, val_main_v53_apply, keep_apply]
  have e2 : ∀ j : S2x4x1024x1.Idx, val_main_call7_v1 (F := Ideal) j = 1#1 := by
    intro j
    rw [val_main_call7_v1_apply, val_main_v47_apply, keep_apply]
  have e3 : val_main_v51 (F := Ideal) x0 x1 x2 (ix4 b h i k) = 0 + ∑ k : Fin 1024, val_main_v45 (F := Ideal) x0 x1 x2 (ix4 b h i k) := by
    rw [val_main_v51_apply, val_main_v50_apply, e2, val_main_v49_apply]
    refine (if_pos rfl).trans ?_
    rw [val_main_v48_apply, val_main_cst_16_apply]
    rw [show (FloatOps.ofBits .f32 0x00000000#32 : Ideal .f32) = (0 : EReal) from Ideal.ofBits_zero_f32]
    refine congrArg (fun z : EReal => 0 + z) (Finset.sum_congr rfl fun k _ => congrArg _ ?_)
    funext a; fin_cases a <;> rfl
  rw [val_main_v54_apply, e1]
  refine (if_pos rfl).trans ?_
  rw [val_main_v52_apply, e3]; rfl

theorem out_apply (b : Fin 2) (i : Fin 1024) (n : Fin 512) :
    val_main_v58 (F := Ideal) x0 x1 x2 x3 x4 (ix3 b i n)
      = ∑ e : Fin 256, (∑ k : Fin 1024, val_main_v24 (F := Ideal) x3 (ix4 b k (⟨e.val / 64, by omega⟩ : Fin 4) (⟨e.val % 64, by omega⟩ : Fin 64))
          * val_main_v54 (F := Ideal) x0 x1 x2 (ix4 b (⟨e.val / 64, by omega⟩ : Fin 4) i k)) * x4 (ix2 e n) := by
  rw [val_main_v58_apply]
  refine Finset.sum_congr rfl fun e _ => ?_
  have er : ridx_main_v58 (ix3 b i n) e = ix2 e n := by funext a; fin_cases a <;> rfl
  have el : lidx_main_v58 (ix3 b i n) e = ix3 b i e := by funext a; fin_cases a <;> rfl
  have ei : idx_main_v56 (idx_main_v57 (ix3 b i e)) = ix4 b (⟨e.val / 64, by omega⟩ : Fin 4) (⟨e.val % 64, by omega⟩ : Fin 64) i := by
    funext a; apply Fin.ext
    match a with
    | ⟨0, _⟩ => show ((b.val * 1024 + i.val) * 256 + e.val) / 262144 = b.val; omega
    | ⟨1, _⟩ => show ((b.val * 1024 + i.val) * 256 + e.val) / 64 % 4 = e.val / 64; omega
    | ⟨2, _⟩ => show ((b.val * 1024 + i.val) * 256 + e.val) % 64 = e.val % 64; omega
    | ⟨3, _⟩ => show ((b.val * 1024 + i.val) * 256 + e.val) / 256 % 1024 = i.val; omega
  rw [er, el, val_main_v57_apply, val_main_v56_apply, ei, val_main_v55_apply]
  refine congrArg (fun z : EReal => z * x4 (ix2 e n)) (Finset.sum_congr rfl fun k _ => ?_)
  generalize (⟨e.val / 64, by omega⟩ : Fin 4) = h
  generalize (⟨e.val % 64, by omega⟩ : Fin 64) = d
  have fl : lidx_main_v55 (ix4 b h d i) k = ix4 b k h d := by funext a; fin_cases a <;> rfl
  have fr : ridx_main_v55 (ix4 b h d i) k = ix4 b h i k := by funext a; fin_cases a <;> rfl
  rw [fl, fr]

/-- The reference's result where the queries are real: the row of attention that both programs come to, sent through the output
    projection. -/
theorem out_row (q : Fin 2 → Fin 1024 → Fin 4 → Fin 64 → ℝ)
    (hq : ∀ b i h d, ∑ j : Fin 512, x0 (ix3 b i j) * x1 (ix2 j (col h d)) = (q b i h d : EReal)) (b : Fin 2) (i : Fin 1024) (n : Fin 512) :
    val_main_v58 (F := Ideal) x0 x1 x2 x3 x4 (ix3 b i n)
      = ∑ e : Fin 256, (attended (Vis i) (q b i ⟨e.val / 64, by omega⟩) (fun k d => level (x2 (ix4 b k (⟨e.val / 64, by omega⟩ : Fin 4) d)))
          (fun k => level (x3 (ix4 b k (⟨e.val / 64, by omega⟩ : Fin 4) (⟨e.val % 64, by omega⟩ : Fin 64)))) : EReal) * x4 (ix2 e n) := by
  rw [out_apply]
  refine Finset.sum_congr rfl fun e _ => congrArg (fun z : EReal => z * x4 (ix2 e n)) ?_
  generalize (⟨e.val / 64, by omega⟩ : Fin 4) = h
  generalize (⟨e.val % 64, by omega⟩ : Fin 64) = d
  rw [← plain_row (Vis i) (q b i h) (fun k d => level (x2 (ix4 b k h d))) (fun k => level (x3 (ix4 b k h d))) ⟨0, Nat.zero_le _⟩
    (fun k => val_main_v40 (F := Ideal) x0 x1 x2 (ix4 b h i k)) (fun k => by
      rw [score_apply]
      simp only [query_apply, hq, key_apply]) _ (max_apply x0 x1 x2 b h i)]
  refine Finset.sum_congr rfl fun k _ => ?_
  rw [value_apply, weight_apply]
  simp only [shifted_apply]

end Cert.Value.Plainly

end
-- ==== Proof.Agree.lean ====
/-
  The idealized kernel agrees with the reference, block by block, where the inputs and the query projection are finite.
-/
module

public import proofs.«01_k».proof.Defs
public import proofs.«01_k».proof.Proof.Rows
public import proofs.«01_k».proof.Proof.Plainly
public import proofs.«01_k».proof.Proof.Result
public import proofs.«01_k».proof.Proof.Gen.ReferenceIdeal.Run
public import Idealize.ShloMosaic.Lib.ReduceAll
public import Idealize.ShloMosaic.Lib.Layout

@[expose] public section

set_option maxRecDepth 16384

noncomputable section

namespace Cert.Value

open Cert.KernelIdeal.Run
open Idealize.ShloMosaic hiding ix1 ix2 ix3 ix4 ix5 eq_ix1 eq_ix2 eq_ix3 eq_ix4 eq_ix5
open Idealize.ShloMosaic.ValueIdx Idealize.SL.Sem

/-! ## The precondition -/

/-- The shape relations that the precondition's operations take, over one device's blocks. -/
theorem preKernel : Cert.Pre_finite_KernelIdeal.Facts where
  bitsLt_bf16_f32 := by decide
  bcast_S_S2x128x512 := by decide
  reducesTo_S2x128x512_S_d0_1_2 := by decide
  h_S_ := by decide
  bcast_S_S512x256 := by decide
  reducesTo_S512x256_S_d0_1 := by decide

/-- The same, over the whole arrays. -/
theorem preReference : Cert.Pre_finite_ReferenceIdeal.Facts where
  bitsLt_bf16_f32 := by decide
  bcast_S_S2x1024x512 := by decide
  reducesTo_S2x1024x512_S_d0_1_2 := by decide
  h_S_ := by decide
  bcast_S_S512x256 := by decide
  reducesTo_S512x256_S_d0_1 := by decide

/-- An extended real that is a real number. -/
def IsReal (x : EReal) : Prop := x = (x.toReal : EReal)

theorem lit_top : Ideal.ofBits .f32 0x7F800000#32 = ⊤ := by
  simp [Ideal.ofBits, Ideal.ieee]

/-- A number whose absolute value is below infinity is real. -/
theorem real_of_lt (x : EReal) (h : Ideal.cmp .olt (max x (-x)) (Ideal.ofBits .f32 0x7F800000#32) = 1#1) : IsReal x := by
  rw [lit_top] at h
  have h' : max x (-x) < ⊤ := by
    by_contra hn
    simp [Ideal.cmp, hn] at h
  refine (EReal.coe_toReal ?_ ?_).symm
  · rintro rfl; simp at h'
  · rintro rfl; simp at h'

theorem both_one : ∀ a b : BitVec 1, IntOp.andi a b = 1#1 → a = 1#1 ∧ b = 1#1 := by decide

instance : Subsingleton Cert.Pre_finite_KernelIdeal.S_.Idx := ⟨fun a b => funext fun i => Fin.elim0 i⟩

/-- Where the precondition holds of a device's blocks, every element of its inputs and of the query projection is real. -/
theorem finite_real (x0 : FVec Ideal Cert.Pre_finite_KernelIdeal.S2x128x512 .bf16) (x1 : FVec Ideal Cert.Pre_finite_KernelIdeal.S512x256 .bf16)
    (x2 x3 : FVec Ideal Cert.Pre_finite_KernelIdeal.S2x128x4x64 .bf16) (x4 : FVec Ideal Cert.Pre_finite_KernelIdeal.S256x512 .bf16)
    (h : @Cert.Pre_finite_KernelIdeal.fn preKernel Ideal _ x0 x1 x2 x3 x4 = fun _ => 1#1) : (∀ i, IsReal (x0 i)) ∧ ∀ i, IsReal (x1 i) := by
  have h0 := congrFun h (fun i => Fin.elim0 i)
  obtain ⟨ha, hb⟩ := both_one _ _ h0
  exact ⟨fun i => real_of_lt _ (Host.reduce_andi_all _ _ _ _ _ ha i), fun i => real_of_lt _ (Host.reduce_andi_all _ _ _ _ _ hb i)⟩

/-- A sum of products of reals is real. -/
theorem sum_real {N : Nat} (f g : Fin N → EReal) (hf : ∀ j, IsReal (f j)) (hg : ∀ j, IsReal (g j)) : IsReal (∑ j, f j * g j) := by
  have e : ∑ j, f j * g j = ((∑ j, (f j).toReal * (g j).toReal : ℝ) : EReal) := by
    rw [coe_sum]
    refine Finset.sum_congr rfl fun j _ => ?_
    rw [EReal.coe_mul, ← hf j, ← hg j]
  rw [e]; rfl

/-! ## Blocks of the whole arrays -/

/-- Position `p` of device `c`'s block, among all positions. -/
def glob (c : Fin 8) (p : Fin 128) : Fin 1024 := ⟨128 * c.val + p.val, by omega⟩

theorem glob_home (k : Fin 1024) : glob (home k) (local' k) = k := by
  apply Fin.ext
  show 128 * (k.val / 128) + k.val % 128 = k.val
  omega

theorem block3 {α : Type} (v : (⟨3, ![2, 1024, 512]⟩ : Shape).Idx → α) (c : Fin 8) (b : Fin 2) (p : Fin 128) (j : Fin 512) :
    Layout.block ⟨3, ![2, 128, 512]⟩ ⟨3, ![2, 1024, 512]⟩ 1 8 c v (by decide) (ix3 b p j) = v (ix3 b (glob c p) j) := by
  rw [Layout.block_apply]
  refine congrArg v (funext fun a => Fin.ext ?_)
  match a with
  | ⟨0, _⟩ => rfl
  | ⟨1, _⟩ => show c.val * 128 + p.val = 128 * c.val + p.val; omega
  | ⟨2, _⟩ => rfl

theorem block4 {α : Type} (v : (⟨4, ![2, 1024, 4, 64]⟩ : Shape).Idx → α) (c : Fin 8) (b : Fin 2) (p : Fin 128) (h : Fin 4) (d : Fin 64) :
    Layout.block ⟨4, ![2, 128, 4, 64]⟩ ⟨4, ![2, 1024, 4, 64]⟩ 1 8 c v (by decide) (ix4 b p h d) = v (ix4 b (glob c p) h d) := by
  rw [Layout.block_apply]
  refine congrArg v (funext fun a => Fin.ext ?_)
  match a with
  | ⟨0, _⟩ => rfl
  | ⟨1, _⟩ => show c.val * 128 + p.val = 128 * c.val + p.val; omega
  | ⟨2, _⟩ => rfl
  | ⟨3, _⟩ => rfl

/-- What a query sees is said the same way on its device and among all positions. -/
theorem sees_vis (c : Fin 8) (p : Fin 128) : Sees c p = Plainly.Vis (glob c p) := by
  funext k
  apply propext
  show k.val / 64 ≤ 2 * c.val + p.val / 64 ↔ k.val / 64 ≤ (128 * c.val + p.val) / 64
  omega

theorem attended_congr {N D : Nat} (S S' : Fin N → Prop) [DecidablePred S] [DecidablePred S'] (hS : S = S') (q : Fin D → ℝ) (kn kn' : Fin N → Fin D → ℤ)
    (vn vn' : Fin N → ℤ) (hk : kn = kn') (hv : vn = vn') : attended S q kn vn = attended S' q kn' vn' := by
  subst hS hk hv
  congr

/-! ## Agreement -/

variable (m : (ℓ : Loc Cert.KernelIdeal.nD Cert.KernelIdeal.τ Cert.KernelIdeal.sig) → Buf (Elt Ideal) ℓ)

/-- Device `c`'s result is its block of the reference's, when its arguments are its parts of the reference's and what
    enters the queries is real. -/
theorem out_block (x0 : (⟨3, ![2, 1024, 512]⟩ : Shape).Idx → EReal) (x1 : (⟨2, ![512, 256]⟩ : Shape).Idx → EReal)
    (x2 x3 : (⟨4, ![2, 1024, 4, 64]⟩ : Shape).Idx → EReal) (x4 : (⟨2, ![256, 512]⟩ : Shape).Idx → EReal)
    (h0 : ∀ c b p j, inX m c (ix3 b p j) = x0 (ix3 b (glob c p) j)) (h1 : ∀ c, inWq m c = x1)
    (h2 : ∀ c b p h d, inK m c (ix4 b p h d) = x2 (ix4 b (glob c p) h d)) (h3 : ∀ c b p h d, inV m c (ix4 b p h d) = x3 (ix4 b (glob c p) h d))
    (h4 : ∀ c, inWo m c = x4) (r0 : ∀ b i j, IsReal (x0 (ix3 b i j))) (r1 : ∀ i, IsReal (x1 i)) (c : Fin 8) :
    outAt m c = Layout.block ⟨3, ![2, 128, 512]⟩ ⟨3, ![2, 1024, 512]⟩ 1 8 c (Cert.ReferenceIdeal.Read.val_main_v58 (F := Ideal) x0 x1 x2 x3 x4) (by decide) := by
  funext j
  obtain ⟨b, p, n, rfl⟩ : ∃ (b : Fin 2) (p : Fin 128) (n : Fin 512), j = ix3 b p n := ⟨_, _, _, eq_ix3 j⟩
  refine Eq.trans ?_ (block3 _ c b p n).symm
  let q : Fin 2 → Fin 1024 → Fin 4 → Fin 64 → ℝ := fun b i h d => (∑ j : Fin 512, x0 (ix3 b i j) * x1 (ix2 j (col h d))).toReal
  have hq : ∀ b i h d, ∑ j : Fin 512, x0 (ix3 b i j) * x1 (ix2 j (col h d)) = (q b i h d : EReal) :=
    fun b i h d => sum_real _ _ (fun j => r0 b i j) (fun j => r1 _)
  rw [out_row m c (fun b p => q b (glob c p)) (fun b p h d => by simp only [h0, h1]; exact hq b (glob c p) h d) b p n]
  refine Eq.trans ?_ (Plainly.out_row x0 x1 x2 x3 x4 q hq b (glob c p) n).symm
  refine Finset.sum_congr rfl fun e _ => ?_
  rw [h4]
  refine congrArg (fun z : ℝ => (z : EReal) * x4 (ix2 e n)) ?_
  refine attended_congr _ _ (sees_vis c p) _ _ _ _ _ ?_ ?_
  · funext k d; rw [h2, glob_home]
  · funext k; rw [h3, glob_home]

/-- The idealized kernel on eight devices computes the reference, each device its block. -/
theorem algebraic : algebraic_KernelIdeal_ReferenceIdeal_pre_finite_KernelIdeal (hKernelIdeal := Cert.KernelIdeal.Gen.facts)
    (hReferenceIdeal := Cert.ReferenceIdeal.Gen.facts) (hPre_finite_KernelIdeal := preKernel) := by
  intro m g m' g' hpre hargs
  refine ⟨Cert.ReferenceIdeal.Read.val_main_v58 (F := Ideal) _ _ _ _ _,
    (θ_run _ _ _).mono (fun _ h c => ⟨((h.1 c).1).trans ?_, (h.1 c).2⟩) (Cert.KernelIdeal.Run.run_result m g),
    (θ_run _ _ _).mono (fun r h => ⟨((h 0).1).trans (Cert.ReferenceIdeal.Read.val_main_v58_eq (F := Ideal) m' 0), (h 0).2⟩) (Cert.ReferenceIdeal.Value.run (F := Ideal) m' g')⟩
  have hr : ∀ c, _ := fun c => finite_real _ _ _ _ _ (hpre c)
  refine out_block m _ _ _ _ _ ?_ ?_ ?_ ?_ ?_ ?_ ?_ c
  · intro c b p j; rw [inX_eq, (hargs c).1]; exact block3 _ c b p j
  · intro c; rw [inWq_eq, (hargs c).2.1]
  · intro c b p h d; rw [inK_eq, (hargs c).2.2.1]; exact block4 _ c b p h d
  · intro c b p h d; rw [inV_eq, (hargs c).2.2.2.1]; exact block4 _ c b p h d
  · intro c; rw [inWo_eq, (hargs c).2.2.2.2]
  · intro b i j
    have h := (hr (home i)).1 (ix3 b (local' i) j)
    rw [(hargs (home i)).1] at h
    have e := block3 (m' (((0 : Dev Cert.ReferenceIdeal.nD).tc : Thread Cert.ReferenceIdeal.nD Cert.ReferenceIdeal.τ).loc Cert.ReferenceIdeal.main_arg0)) (home i) b (local' i) j
    rw [glob_home] at e
    exact e ▸ h
  · intro i
    have h := (hr 0).2 i
    rw [(hargs 0).2.1] at h
    exact h

end Cert.Value

end
-- ==== Proof.lean ====
/-
  The claim, put together from its parts: the frames of the three programs and the step from the kernel to its idealization
  (`Frames`), and the agreement of the idealized kernel with the reference (`Agree`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Agree
public import Idealize.ShloMosaic.Adequacy
public import Idealize.ShloMosaic.Init

@[expose] public section

noncomputable section

namespace Cert.Proof

/-- The claim, whole. -/
theorem claim : Cert.Claim :=
  ⟨Cert.Kernel.Gen.facts, Cert.KernelIdeal.Gen.facts, Cert.ReferenceIdeal.Gen.facts, Cert.Value.preKernel, Cert.Value.preReference,
    Cert.Frames.kernel, Cert.Frames.kernelIdeal, fun m g _ => Cert.Frames.kernelIdeal m g trivial,
    Cert.Frames.referenceIdeal, fun m g _ => Cert.Frames.referenceIdeal m g trivial,
    Cert.Frames.preserves, Cert.Value.algebraic⟩

end Cert.Proof

end
